-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S256x512 : Shape := ⟨2, ![256, 512]⟩
abbrev S_ : Shape := ⟨0, ![]⟩

class Facts : Prop where
  bitsLt_bf16_f32 : FTy.bits .bf16 < FTy.bits .f32
  bcast_S_S512x256 : S_.BroadcastsInDim S512x256 (![] : Fin 0 → Fin S512x256.rank)
  reducesTo_S512x256_S_d0_1 : S512x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S512x256 .bf16) (main_arg1 : FVec F S256x16 .bf16) (main_arg2 : IVec S512x1 32) (main_arg3 : FVec F S2x256x512 .bf16) (main_arg4 : FVec F S256x512 .bf16) : IVec S_ 1 :=
  let main_v0 : FVec F S512x256 .f32 := (extf .f32 · bitsLt_bf16_f32) main_arg0
  let main_v1 : FVec F S256x16 .f32 := (extf .f32 · bitsLt_bf16_f32) main_arg1
  let main_v2 : FVec F S512x256 .f32 := Host.absf main_v0
  let main_cst : FVec F S_ .f32 := constant S_ .f32 0x7F800000#32
  let main_v3 : FVec F S512x256 .f32 := broadcastInDim S512x256 ![] bcast_S_S512x256 main_cst
  let main_v4 : IVec S512x256 1 := cmpf .olt main_v2 main_v3
  let main_c : IVec S_ 1 := constantI S_ 1 1#1
  let main_v5 : IVec S_ 1 := (fun x v => Host.reduce IntOp.andi x v reducesTo_S512x256_S_d0_1 h_S_) main_v4 main_c
  let main_v6 : FVec F S256x16 .f32 := Host.absf main_v1
  let main_cst_0 : FVec F S_ .f32 := constant S_ .f32 0x7F800000#32
  let main_v7 : FVec F S256x16 .f32 := broadcastInDim S256x16 ![] bcast_S_S256x16 main_cst_0
  let main_v8 : IVec S256x16 1 := cmpf .olt main_v6 main_v7
  let main_c_1 : IVec S_ 1 := constantI S_ 1 1#1
  let main_v9 : IVec S_ 1 := (fun x v => Host.reduce IntOp.andi x v reducesTo_S256x16_S_d0_1 h_S_) main_v8 main_c_1
  let main_v10 : IVec S_ 1 := andi main_v5 main_v9
  main_v10
-- ==== Pre_finite_ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S256x512 : Shape := ⟨2, ![256, 512]⟩
abbrev S_ : Shape := ⟨0, ![]⟩

class Facts : Prop where
  bitsLt_bf16_f32 : FTy.bits .bf16 < FTy.bits .f32
  bcast_S_S512x256 : S_.BroadcastsInDim S512x256 (![] : Fin 0 → Fin S512x256.rank)
  reducesTo_S512x256_S_d0_1 : S512x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S512x256 .bf16) (main_arg1 : FVec F S256x16 .bf16) (main_arg2 : IVec S512x1 32) (main_arg3 : FVec F S16x256x512 .bf16) (main_arg4 : FVec F S256x512 .bf16) : IVec S_ 1 :=
  let main_v0 : FVec F S512x256 .f32 := (extf .f32 · bitsLt_bf16_f32) main_arg0
  let main_v1 : FVec F S256x16 .f32 := (extf .f32 · bitsLt_bf16_f32) main_arg1
  let main_v2 : FVec F S512x256 .f32 := Host.absf main_v0
  let main_cst : FVec F S_ .f32 := constant S_ .f32 0x7F800000#32
  let main_v3 : FVec F S512x256 .f32 := broadcastInDim S512x256 ![] bcast_S_S512x256 main_cst
  let main_v4 : IVec S512x256 1 := cmpf .olt main_v2 main_v3
  let main_c : IVec S_ 1 := constantI S_ 1 1#1
  let main_v5 : IVec S_ 1 := (fun x v => Host.reduce IntOp.andi x v reducesTo_S512x256_S_d0_1 h_S_) main_v4 main_c
  let main_v6 : FVec F S256x16 .f32 := Host.absf main_v1
  let main_cst_0 : FVec F S_ .f32 := constant S_ .f32 0x7F800000#32
  let main_v7 : FVec F S256x16 .f32 := broadcastInDim S256x16 ![] bcast_S_S256x16 main_cst_0
  let main_v8 : IVec S256x16 1 := cmpf .olt main_v6 main_v7
  let main_c_1 : IVec S_ 1 := constantI S_ 1 1#1
  let main_v9 : IVec S_ 1 := (fun x v => Host.reduce IntOp.andi x v reducesTo_S256x16_S_d0_1 h_S_) main_v8 main_c_1
  let main_v10 : IVec S_ 1 := andi main_v5 main_v9
  main_v10
-- ==== Kernel.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S256x512 : Shape := ⟨2, ![256, 512]⟩
abbrev S64x512 : Shape := ⟨2, ![64, 512]⟩
abbrev S512x512 : Shape := ⟨2, ![512, 512]⟩
abbrev S7x64x512 : Shape := ⟨3, ![7, 64, 512]⟩
abbrev S7 : Shape := ⟨1, ![7]⟩
abbrev S_ : Shape := ⟨0, ![]⟩
abbrev S512x16 : Shape := ⟨2, ![512, 16]⟩
abbrev S512 : Shape := ⟨1, ![512]⟩
abbrev S1x256x512 : Shape := ⟨3, ![1, 256, 512]⟩
abbrev S1 : Shape := ⟨1, ![1]⟩
abbrev S1x64x512 : Shape := ⟨3, ![1, 64, 512]⟩
abbrev S64x256 : Shape := ⟨2, ![64, 256]⟩

abbrev nBuf : Space → Nat
  | .hbm => 6
  | .vmem => 11
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S2x256x512, .bf16⟩
  | .hbm, ⟨4, _⟩ => ⟨S256x512, .bf16⟩
  | .hbm, ⟨5, _⟩ => ⟨S64x512, .f32⟩
  | .local _ .vmem, ⟨0, _⟩ => ⟨S512x256, .bf16⟩
  | .local _ .vmem, ⟨1, _⟩ => ⟨S256x16, .bf16⟩
  | .local _ .vmem, ⟨2, _⟩ => ⟨S512x1, .i32⟩
  | .local _ .vmem, ⟨3, _⟩ => ⟨S2x256x512, .bf16⟩
  | .local _ .vmem, ⟨4, _⟩ => ⟨S256x512, .bf16⟩
  | .local _ .vmem, ⟨5, _⟩ => ⟨S64x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S7x64x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_45 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v79 : BitVec 32 := Scalar.addi v2 c1_i32_45
  let c8_i32_46 : BitVec 32 := 8#32
  let v80 : BitVec 32 := Scalar.remsi v79 c8_i32_46
  let c64_i32 : BitVec 32 := 64#32
  let v81 : BitVec 32 := Scalar.muli v80 c64_i32
  let v82 : Index := Scalar.indexCast v81
  let c0_47 : Index := 0#32
  ![v82.toNat, 0]
def k0_dev8 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_102 : BitVec 32 := 1#32
  let v160 : BitVec 32 := Scalar.addi v2 c1_i32_102
  let c8_i32_103 : BitVec 32 := 8#32
  let v161 : BitVec 32 := Scalar.remsi v160 c8_i32_103
  let c1_i32_107 : BitVec 32 := 1#32
  let v162 : BitVec 32 := Scalar.muli v161 c1_i32_107
  let v163 : BitVec 32 := Scalar.addi c0_i32_108 v162
  v163.toNat
def k0_dev9 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_113 : BitVec 32 := 2#32
  let v171 : BitVec 32 := Scalar.addi v2 c2_i32_113
  let c8_i32_114 : BitVec 32 := 8#32
  let v172 : BitVec 32 := Scalar.remsi v171 c8_i32_114
  let c1_i32_118 : BitVec 32 := 1#32
  let v173 : BitVec 32 := Scalar.muli v172 c1_i32_118
  let v174 : BitVec 32 := Scalar.addi c0_i32_119 v173
  v174.toNat
def k0_dev10 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_124 : BitVec 32 := 3#32
  let v182 : BitVec 32 := Scalar.addi v2 c3_i32_124
  let c8_i32_125 : BitVec 32 := 8#32
  let v183 : BitVec 32 := Scalar.remsi v182 c8_i32_125
  let c1_i32_129 : BitVec 32 := 1#32
  let v184 : BitVec 32 := Scalar.muli v183 c1_i32_129
  let v185 : BitVec 32 := Scalar.addi c0_i32_130 v184
  v185.toNat
def k0_dev11 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_134 : BitVec 32 := 4#32
  let v193 : BitVec 32 := Scalar.addi v2 c4_i32_134
  let c8_i32_135 : BitVec 32 := 8#32
  let v194 : BitVec 32 := Scalar.remsi v193 c8_i32_135
  let c1_i32_139 : BitVec 32 := 1#32
  let v195 : BitVec 32 := Scalar.muli v194 c1_i32_139
  let v196 : BitVec 32 := Scalar.addi c0_i32_140 v195
  v196.toNat
def k0_dev12 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_149 : BitVec 32 := 5#32
  let v210 : BitVec 32 := Scalar.addi v2 c5_i32_149
  let c8_i32_150 : BitVec 32 := 8#32
  let v211 : BitVec 32 := Scalar.remsi v210 c8_i32_150
  let c1_i32_154 : BitVec 32 := 1#32
  let v212 : BitVec 32 := Scalar.muli v211 c1_i32_154
  let v213 : BitVec 32 := Scalar.addi c0_i32_155 v212
  v213.toNat
def k0_dev13 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_159 : BitVec 32 := 6#32
  let v221 : BitVec 32 := Scalar.addi v2 c6_i32_159
  let c8_i32_160 : BitVec 32 := 8#32
  let v222 : BitVec 32 := Scalar.remsi v221 c8_i32_160
  let c1_i32_164 : BitVec 32 := 1#32
  let v223 : BitVec 32 := Scalar.muli v222 c1_i32_164
  let v224 : BitVec 32 := Scalar.addi c0_i32_165 v223
  v224.toNat
def k0_dev14 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_169 : BitVec 32 := 7#32
  let v232 : BitVec 32 := Scalar.addi v2 c7_i32_169
  let c8_i32_170 : BitVec 32 := 8#32
  let v233 : BitVec 32 := Scalar.remsi v232 c8_i32_170
  let c1_i32_174 : BitVec 32 := 1#32
  let v234 : BitVec 32 := Scalar.muli v233 c1_i32_174
  let v235 : BitVec 32 := Scalar.addi c0_i32_175 v234
  v235.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_179 : BitVec 32 := 64#32
  let v243 : BitVec 32 := Scalar.muli v2 c64_i32_179
  let v244 : Index := Scalar.indexCast v243
  let c0_180 : Index := 0#32
  ![v244.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S256x512 : Shape := ⟨2, ![256, 512]⟩
abbrev S512x16 : Shape := ⟨2, ![512, 16]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S512x256x512 : Shape := ⟨3, ![512, 256, 512]⟩

abbrev nBuf : Space → Nat
  | .hbm => 50
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S16x256x512, .bf16⟩
  | .hbm, ⟨4, _⟩ => ⟨S256x512, .bf16⟩
  | .hbm, ⟨5, _⟩ => ⟨S512x256, .f32⟩
  | .hbm, ⟨6, _⟩ => ⟨S256x16, .f32⟩
  | .hbm, ⟨7, _⟩ => ⟨S16x256x512, .f32⟩
  | .hbm, ⟨8, _⟩ => ⟨S256x512, .f32⟩
  | .hbm, ⟨9, _⟩ => ⟨S512x16, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x16, .f32⟩
  | .hbm, ⟨14, _⟩ => ⟨S512x16, .f32⟩
  | .hbm, ⟨15, _⟩ => ⟨S512x16, .f32⟩
  | .hbm, ⟨16, _⟩ => ⟨S_, .f32⟩
  | .hbm, ⟨17, _⟩ => ⟨S512, .f32⟩
  | .hbm, ⟨18, _⟩ => ⟨S512x1, .f32⟩
  | .hbm, ⟨19, _⟩ => ⟨S512x16, .f32⟩
  | .hbm, ⟨20, _⟩ => ⟨S512x16, .f32⟩
  | .hbm, ⟨21, _⟩ => ⟨S512x512, .f32⟩
  | .hbm, ⟨22, _⟩ => ⟨S_, .i32⟩
  | .hbm, ⟨23, _⟩ => ⟨S512x1, .i32⟩
  | .hbm, ⟨24, _⟩ => ⟨S512x1, .i1⟩
  | .hbm, ⟨25, _⟩ => ⟨S_, .i32⟩
  | .hbm, ⟨26, _⟩ => ⟨S512x1, .i32⟩
  | .hbm, ⟨27, _⟩ => ⟨S512x1, .i1⟩
  | .hbm, ⟨28, _⟩ => ⟨S512x1, .i1⟩
  | .hbm, ⟨29, _⟩ => ⟨S_, .i32⟩
  | .hbm, ⟨30, _⟩ => ⟨S512x1, .i32⟩
  | .hbm, ⟨31, _⟩ => ⟨S512x1, .i1⟩
  | .hbm, ⟨32, _⟩ => ⟨S_, .i32⟩
  | .hbm, ⟨33, _⟩ => ⟨S512x1, .i32⟩
  | .hbm, ⟨34, _⟩ => ⟨S512x1, .i32⟩
  | .hbm, ⟨35, _⟩ => ⟨S512x1, .i32⟩
  | .hbm, ⟨36, _⟩ => ⟨S512x1x1, .i32⟩
  | .hbm, ⟨37, _⟩ => ⟨S512x1, .f32⟩
  | .hbm, ⟨38, _⟩ => ⟨S512, .i32⟩
  | .hbm, ⟨39, _⟩ => ⟨S512x1, .i32⟩
  | .hbm, ⟨40, _⟩ => ⟨S512x256x512, .f32⟩
  | .hbm, ⟨41, _⟩ => ⟨S512x512, .f32⟩
  | .hbm, ⟨42, _⟩ => ⟨S512x512, .f32⟩
  | .hbm, ⟨43, _⟩ => ⟨S512x512, .f32⟩
  | .hbm, ⟨44, _⟩ => ⟨S_, .f32⟩
  | .hbm, ⟨45, _⟩ => ⟨S_, .f32⟩
  | .hbm, ⟨46, _⟩ => ⟨S512x512, .i1⟩
  | .hbm, ⟨47, _⟩ => ⟨S512x512, .f32⟩
  | .hbm, ⟨48, _⟩ => ⟨S512x512, .f32⟩
  | .hbm, ⟨49, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_call1_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Proof.Contents.lean ====
/-
# What each buffer of the exchange kernel holds, at any float values

For a device `c`: the five arguments as launched (`xIn`, `rwIn`, `idxIn`, `ewIn`, `swIn`), then, in the order the
kernel fills its scratch buffers, the tokens scaled for the device's two experts side by side (`scaled`), the same
rows turned so that the block for shift `k + 1` comes `k`-th (`turned`), the two experts' weights one above the other
(`stacked`), the products (`products`), the blocks the other devices sent (`received`), and the result (`result`).
Beside them, how a load and a store through a rectangle of a whole buffer act at one index.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.Tactic

@[expose] public section

noncomputable section

namespace Cert.Exchange

open Cert.KernelIdeal Cert.KernelIdeal.Gen

open Idealize.ShloMosaic
open Idealize.ShloMosaic.TcCoe
open Idealize.ShloMosaic.ValueIdx (ix2 ix3 eq_ix2 eq_ix3)
open Idealize.SL Idealize.SL.Sem

variable {F : FTy → Type} [FloatOps F]

/-! ## The eight devices and the seven shifts -/

set_option backward.proofsInPublic true in
/-- The device `j + 1` places after `c`: where `c` sends its `j`-th block. -/
def peer (c : Dev nD) (j : Fin 7) : Dev nD := ⟨(c.val + j.val + 1) % 8, Nat.mod_lt _ (by decide)⟩

/-- Going `j + 1` places and then `7 - j` places comes back. -/
theorem peer_rev (c : Dev nD) (j : Fin 7) : peer (peer c j) j.rev = c := by revert c j; decide
/-- Going to a peer and on by the mirrored step comes back to the device. -/
theorem rev_peer (c : Dev nD) (j : Fin 7) : peer (peer c j.rev) j = c := by revert c j; decide

/-- One shift, as a permutation of the devices. -/
def shift (j : Fin 7) : Dev nD ≃ Dev nD :=
  ⟨fun c => peer c j, fun c => peer c j.rev, fun c => peer_rev c j, fun c => rev_peer c j⟩

/-! ## Loads and stores through a rectangle of a whole buffer -/

/-- A load reads the buffer where the rectangle places the index. -/
theorem readAt_whole_at (b : Ref sig .tc) (r : Rect b.ty.shape) (f : b.ty.Contents (Elt F)) (x : r.shape.Idx) :
    (Memref.whole b).view.readAt (Elt F) r.toLoadRect f x = f (r.emb x) := rfl

/-- A store leaves its payload where the rectangle places the index, -/
theorem write_whole_hit (b : Ref sig .tc) (r : Rect b.ty.shape) (f : b.ty.Contents (Elt F))
    (w : r.shape.Idx → Elt F b.ty.elt) (x : r.shape.Idx) :
    ((Memref.whole b).access r : View sig .tc _ _ _).write (Elt F) f w Finset.univ (r.emb x) = w x :=
  View.write_emb_of_mem (v := ((Memref.whole b).access r : View sig .tc _ _ _)) f w (Finset.mem_univ x)

/-- and what was there elsewhere. -/
theorem write_whole_miss (b : Ref sig .tc) (r : Rect b.ty.shape) (f : b.ty.Contents (Elt F))
    (w : r.shape.Idx → Elt F b.ty.elt) (i : b.ty.shape.Idx) (h : i ∉ r.set) :
    ((Memref.whole b).access r : View sig .tc _ _ _).write (Elt F) f w Finset.univ i = f i :=
  View.write_of_not_mem (v := ((Memref.whole b).access r : View sig .tc _ _ _)) f w Finset.univ (by
    intro hm
    apply h
    have : (((Memref.whole b).access r : View sig .tc _ _ _)).set = r.set := View.set_slice_whole b r
    rw [← this]; exact hm)

/-! ## The arguments and the scratch contents -/

variable (m : (ℓ : Loc nD τ sig) → Buf (Elt F) ℓ)

/-- The five arguments as device `c` finds them in its windows. -/
def xIn (c : Dev nD) : Vec F S512x256 .bf16 := (win0_0.blk (0 : Fin 1)).view.read (Elt F) (m ((c : Thread nD τ).loc main_arg0))
/-- The router weights as fetched. -/
def rwIn (c : Dev nD) : Vec F S256x16 .bf16 := (win0_1.blk (0 : Fin 1)).view.read (Elt F) (m ((c : Thread nD τ).loc main_arg1))
/-- The expert indices as fetched. -/
def idxIn (c : Dev nD) : Vec F S512x1 .i32 := (win0_2.blk (0 : Fin 1)).view.read (Elt F) (m ((c : Thread nD τ).loc main_arg2))
/-- The device's expert weights as fetched. -/
def ewIn (c : Dev nD) : Vec F S2x256x512 .bf16 := (win0_3.blk (0 : Fin 1)).view.read (Elt F) (m ((c : Thread nD τ).loc main_arg3))
/-- The shared weights as fetched. -/
def swIn (c : Dev nD) : Vec F S256x512 .bf16 := (win0_4.blk (0 : Fin 1)).view.read (Elt F) (m ((c : Thread nD τ).loc main_arg4))

/-- The device's place on the mesh axis, as the kernel computes it. -/
def place (c : Dev nD) : BitVec 32 := Scalar.remsi (Scalar.divsi (Dev.word c) 1#32) 8#32

/-- The tokens times the coefficient of the device's first expert, and of its second. -/
def scaledFst (c : Dev nD) : Vec F S512x256 .bf16 :=
  k0_pay6 (k0_pay1 (xIn m c)) (k0_pay3 (xIn m c) (rwIn m c) (idxIn m c)) (k0_pay4 (F := F) (place c) (idxIn m c)) (k0_pay5 (F := F))
/-- The activations scaled for the device's second expert. -/
def scaledSnd (c : Dev nD) : Vec F S512x256 .bf16 :=
  k0_pay7 (k0_pay1 (xIn m c)) (k0_pay2 (F := F) (idxIn m c)) (k0_pay3 (xIn m c) (rwIn m c) (idxIn m c)) (Scalar.muli (place c) 2#32)

/-- The two side by side. -/
def scaled (c : Dev nD) : Vec F S512x512 .bf16 := fun i =>
  if h : (i 1).val < 256 then scaledFst m c (ix2 (n0 := 512) (i 0) ⟨(i 1).val, h⟩)
  else scaledSnd m c (ix2 (n0 := 512) (i 0) ⟨(i 1).val - 256, by have : (i 1).val < 512 := (i 1).isLt; omega⟩)

/-- Row block `k` of the turned buffer is the scaled tokens' row block `c + k + 1`, modulo eight. -/
def turned (c : Dev nD) : Vec F S512x512 .bf16 := fun i =>
  scaled m c (ix2 (n0 := 512) ⟨64 * ((c.val + ((i 0).val / 64 + 1)) % 8) + (i 0).val % 64, by omega⟩ (i 1))

/-- The device's first expert's weights above its second's. -/
def stacked (c : Dev nD) : Vec F S512x512 .bf16 := fun i =>
  if h : (i 0).val < 256 then k0_pay16 (fun j => ewIn m c (ix3 (n0 := 2) 0 (j 1) (j 2))) (ix2 (n1 := 512) ⟨(i 0).val, h⟩ (i 1))
  else k0_pay17 (fun j => ewIn m c (ix3 (n0 := 2) 1 (j 1) (j 2)))
    (ix2 (n1 := 512) ⟨(i 0).val - 256, by have : (i 0).val < 512 := (i 0).isLt; omega⟩ (i 1))

/-- The upper half of the turned rows and the lower half. -/
def turnedTop (c : Dev nD) : Vec F S256x512 .bf16 := fun j =>
  turned m c (ix2 (n0 := 512) ⟨(j 0).val, by have : (j 0).val < 256 := (j 0).isLt; omega⟩ (j 1))
/-- The lower half of the turned activations. -/
def turnedBot (c : Dev nD) : Vec F S256x512 .bf16 := fun j =>
  turned m c (ix2 (n0 := 512) ⟨256 + (j 0).val, by have : (j 0).val < 256 := (j 0).isLt; omega⟩ (j 1))

/-- The two half products. -/
def prodTop (c : Dev nD) : Vec F S256x512 .bf16 := k0_pay19 (k0_pay18 (stacked m c) (turnedTop m c))
/-- The lower half of the products. -/
def prodBot (c : Dev nD) : Vec F S256x512 .bf16 := k0_pay20 (stacked m c) (turnedBot m c)

/-- The product buffer once both halves are in it. -/
def products (c : Dev nD) : Vec F S512x512 .bf16 := fun i =>
  if h : (i 0).val < 256 then prodTop m c (ix2 (n1 := 512) ⟨(i 0).val, h⟩ (i 1))
  else prodBot m c (ix2 (n1 := 512) ⟨(i 0).val - 256, by have : (i 0).val < 512 := (i 0).isLt; omega⟩ (i 1))

/-- Slot `k` of the landing buffer: row block `k` of the products of the device whose shift `k` arrives here. -/
def received (c : Dev nD) : Vec F S7x64x512 .bf16 := fun i =>
  products m (peer c (i 0).rev) (ix2 (n0 := 512) ⟨64 * (i 0).val + (i 1).val, by
    have : (i 0).val < 7 := (i 0).isLt; have : (i 1).val < 64 := (i 1).isLt; omega⟩ (i 2))

/-- The device's own token rows and its own block of the products. -/
def ownRows (c : Dev nD) : Vec F S64x256 .bf16 := fun j =>
  xIn m c (ix2 (n0 := 512) ⟨64 * c.val + (j 0).val, by have : (j 0).val < 64 := (j 0).isLt; have : c.val < 8 := c.isLt; omega⟩ (j 1))
/-- The block of products a device keeps for itself. -/
def ownBlock (c : Dev nD) : Vec F S64x512 .bf16 := fun j =>
  products m c (ix2 (n0 := 512) ⟨448 + (j 0).val, by have : (j 0).val < 64 := (j 0).isLt; omega⟩ (j 1))

/-- What the device computes by itself, and its result. -/
def ownPart (c : Dev nD) : Vec F S64x512 .f32 := k0_pay21 (ownRows m c) (swIn m c) (ownBlock m c)
/-- What the device returns: its own contribution plus the seven received. -/
def result (c : Dev nD) : Vec F S64x512 .f32 := k0_pay22 (ownPart m c) (received m c)

end Cert.Exchange

end
-- ==== Proof.Protocol.lean ====
/-
# The exchange's semaphores: who pays what, and what a payment hands over

Eight devices, seven shifts. Device `c` has a barrier cell and, for each shift `j`, a send cell and a receive cell.

* Its barrier cell receives one unit from each other device. The unit for shift `k` comes from the device `peer c k`,
  and hands `c` that device's landing slot `k`, which is what `c` will copy its block `k` into.
* Its send cell `j` receives the block's bytes when the copy has left, and hands `c` its own block `j` back.
* Its receive cell `j` receives the block's bytes when the copy into its slot `j` has landed, and hands `c` that slot
  holding row block `j` of the sender's products.

All of it happens in one round. A device waits on its barrier cell owing receive credits only, and on the rest owing
nothing, so the levels barrier 1, receive 2, all others 0 make the waits well-founded.
-/
module

public import proofs.«01_k».proof.Proof.Contents

@[expose] public section

noncomputable section

namespace Cert.Exchange

open Cert.KernelIdeal Cert.KernelIdeal.Gen

open Idealize.ShloMosaic
open Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the windows' copy, and the exchange's with a duty per shift -/

/-- The ghost state of the rounds. -/
abbrev UX : Type := URounds (GSem nD τ sig) (Fin 7)
/-- The ghost state of the pipeline and of the rounds together. -/
abbrev UU : Type := UR sig nD τ × UX

local notation "𝕄" => MT nD τ sig Unit (Elt F) ℕ UU ℕ

/-- Where the pipeline's ghost state sits. -/
abbrev EP : Emb (UR sig nD τ) (MT nD τ sig Unit (Elt F) ℕ UU ℕ) := embL
/-- Where the rounds' ghost state sits. -/
abbrev ER : Emb UX (MT nD τ sig Unit (Elt F) ℕ UU ℕ) := embR

/-! ## The buffers and the semaphores -/

/-- The activations' staging buffer. -/
abbrev xM : Memref sig .tc .vmem S512x256 .bf16 := Memref.whole cc0_stg0_0
/-- The router weights' staging buffer. -/
abbrev rwM : Memref sig .tc .vmem S256x16 .bf16 := Memref.whole cc0_stg1_0
/-- The indices' staging buffer. -/
abbrev idxM : Memref sig .tc .vmem S512x1 .i32 := Memref.whole cc0_stg2_0
/-- The expert weights' staging buffer. -/
abbrev ewM : Memref sig .tc .vmem S2x256x512 .bf16 := Memref.whole cc0_stg3_0
/-- The shared weights' staging buffer. -/
abbrev swM : Memref sig .tc .vmem S256x512 .bf16 := Memref.whole cc0_stg4_0
/-- The result's staging buffer. -/
abbrev outM : Memref sig .tc .vmem S64x512 .f32 := Memref.whole cc0_stg5_0
/-- The scaled activations' scratch buffer. -/
abbrev cxM : Memref sig .tc .vmem S512x512 .bf16 := Memref.whole cc0_scratch0
/-- The turned activations' scratch buffer. -/
abbrev zM : Memref sig .tc .vmem S512x512 .bf16 := Memref.whole cc0_scratch1
/-- The stacked weights' scratch buffer. -/
abbrev wM : Memref sig .tc .vmem S512x512 .bf16 := Memref.whole cc0_scratch2
/-- The products' scratch buffer. -/
abbrev yM : Memref sig .tc .vmem S512x512 .bf16 := Memref.whole cc0_scratch3
/-- The landing buffer. -/
abbrev kM : Memref sig .tc .vmem S7x64x512 .bf16 := Memref.whole cc0_scratch4

/-- Each sent block lies inside the product buffer. -/
theorem block_inb (j : Fin 7) : ∀ a, (![64 * j.val, 0] : Fin 2 → ℕ) a + S64x512.size a ≤ S512x512.size a := by
  revert j; decide
/-- Each slot lies inside the landing buffer. -/
theorem slot_inb (j : Fin 7) : ∀ a, (![j.val, 0, 0] : Fin 3 → ℕ) a + S1x64x512.size a ≤ S7x64x512.size a := by
  revert j; decide
/-- Each index lies inside the semaphore arrays. -/
theorem sem_inb (j : Fin 7) : ∀ a, (![j.val] : Fin 1 → ℕ) a + S1.size a ≤ S7.size a := by
  revert j; decide

/-- Rows `64 j` to `64 j + 63` of the products, and slot `j` of the landing buffer. -/
abbrev blockR (j : Fin 7) : Rect S512x512 := Rect.unit (s := S512x512) ![64 * j.val, 0] S64x512.size (block_inb j)
/-- A slot of the landing buffer, as a rectangle. -/
abbrev slotR (j : Fin 7) : Rect S7x64x512 := Rect.unit (s := S7x64x512) ![j.val, 0, 0] S1x64x512.size (slot_inb j)
/-- A sent block of the products, as a buffer. -/
abbrev blockM (j : Fin 7) : Memref sig .tc .vmem S64x512 .bf16 := yM.slice (blockR j) (fun _ => rfl)
/-- A slot of the landing buffer, as a buffer. -/
abbrev slotM (j : Fin 7) : Memref sig .tc .vmem S64x512 .bf16 :=
  (kM.slice (slotR j) (fun _ => rfl)).squeeze S64x512 squeezes_S1x64x512_S64x512

/-- The barrier semaphore. -/
abbrev barS : Sem sig := (SemArray.scalar (sig.barrier 0 rfl) : Sems sig S_).sem
/-- A send semaphore. -/
abbrev sendS (j : Fin 7) : DmaSem sig :=
  ((cc0_scratch5.slice (Rect.unit (s := S7) ![j.val] S1.size (sem_inb j))).squeeze S_ squeezes_S1_S_).sem
/-- A receive semaphore. -/
abbrev recvS (j : Fin 7) : DmaSem sig :=
  ((cc0_scratch6.slice (Rect.unit (s := S7) ![j.val] S1.size (sem_inb j))).squeeze S_ squeezes_S1_S_).sem

/-- A device's barrier cell. -/
abbrev barCell (c : Dev nD) : GSem nD τ sig := ((c : Thread nD τ), .reg barS)
/-- A device's send cell. -/
abbrev sendCell (c : Dev nD) (j : Fin 7) : GSem nD τ sig := ((c : Thread nD τ), .dma (sendS j))
/-- A device's receive cell. -/
abbrev recvCell (c : Dev nD) (j : Fin 7) : GSem nD τ sig := ((c : Thread nD τ), .dma (recvS j))

/-- The names of a device's cells: its barrier, its send cells, its receive cells. -/
abbrev Cell : Type := Unit ⊕ (Fin 7 ⊕ Fin 7)
/-- The kernel's own semaphores, and all of the exchange's. -/
abbrev osem : Fin 7 ⊕ Fin 7 → SemLoc sig := fun | .inl j => .dma (sendS j) | .inr j => .dma (recvS j)
/-- The semaphore of a cell. -/
abbrev csem : Cell → SemLoc sig := fun | .inl _ => .reg barS | .inr k => osem k
/-- A cell of a device, as a semaphore of the mesh. -/
abbrev kcell (ck : Dev nD × Cell) : GSem nD τ sig := ((ck.1 : Thread nD τ), csem ck.2)

/-- Which of a device's cells a semaphore is. -/
def kindOf (s : SemLoc sig) : Option Cell :=
  if s = .reg barS then some (.inl ())
  else (List.finRange 7).findSome? fun j =>
    if s = .dma (sendS j) then some (.inr (.inl j)) else if s = .dma (recvS j) then some (.inr (.inr j)) else none

/-- A cell is found again from its semaphore. -/
theorem kindOf_csem (k : Cell) : kindOf (csem k) = some k := by revert k; decide
/-- Different cells have different semaphores. -/
theorem csem_injective : Function.Injective csem := fun a b h => by
  have := congrArg kindOf h; rw [kindOf_csem, kindOf_csem] at this; exact Option.some.inj this

/-- The bytes one block moves, as every send and receive cell counts them. -/
abbrev N : ℕ := (slotM 0).view.dmaCredit
/-- One block's credit is positive. -/
theorem N_pos : 0 < N := View.dmaCredit_pos _ (by decide)
/-- Every slot is worth one block's credit. -/
theorem slot_credit (j : Fin 7) : (slotM j).view.dmaCredit = N := rfl
/-- Every block is worth one block's credit. -/
theorem block_credit (j : Fin 7) : (blockM j).view.dmaCredit = N := rfl

/-! ## The pieces of the two buffers -/

variable (m : (ℓ : Loc nD τ sig) → Buf (Elt F) ℓ)

/-- Slot `j` of device `c`'s landing buffer at contents `f` of the whole buffer. -/
def slotPts (c : Dev nD) (j : Fin 7) (f : Vec F S7x64x512 .bf16) : sProp 𝕄 :=
  (slotM j).view.loc (c : Thread nD τ) ↦[(slotM j).view.set]{fullShare} f
/-- Row block `j` of device `c`'s product buffer. -/
def blockPts (c : Dev nD) (j : Fin 7) (f : Vec F S512x512 .bf16) : sProp 𝕄 :=
  (blockM j).view.loc (c : Thread nD τ) ↦[(blockM j).view.set]{fullShare} f

/-- A slot may be kept in an invariant. -/
instance slotPts_storable (c : Dev nD) (j : Fin 7) (f) : BI.Storable (upEmb : UEmb _ 𝕄) (slotPts (F := F) c j f) := by
  unfold slotPts; infer_instance
/-- A block may be kept in an invariant. -/
instance blockPts_storable (c : Dev nD) (j : Fin 7) (f) : BI.Storable (upEmb : UEmb _ 𝕄) (blockPts (F := F) c j f) := by
  unfold blockPts; infer_instance

/-- A slot's entries are its rectangle's. -/
theorem slot_set (j : Fin 7) : (slotM j).view.set = (slotR j).set := by
  rw [Memref.set_view_squeeze]; exact View.set_slice_whole cc0_scratch4 (slotR j)
/-- A block's entries are its rectangle's. -/
theorem block_set (j : Fin 7) : (blockM j).view.set = (blockR j).set := View.set_slice_whole cc0_scratch3 (blockR j)

/-- An entry is in a slot when its first coordinate is the slot's number. -/
theorem mem_slot (j : Fin 7) (i : S7x64x512.Idx) : i ∈ (slotR j).set ↔ (i 0).val = j.val := by
  rw [Rect.mem_set_unit]
  constructor
  · intro h
    have h0 : j.val ≤ (i 0).val ∧ (i 0).val < j.val + 1 := h 0
    omega
  · intro h a
    fin_cases a
    · show j.val ≤ (i 0).val ∧ (i 0).val < j.val + 1; omega
    · exact ⟨Nat.zero_le _, by have : (i 1).val < 64 := (i 1).isLt; simpa using this⟩
    · exact ⟨Nat.zero_le _, by have : (i 2).val < 512 := (i 2).isLt; simpa using this⟩
/-- An entry is in a block when its row's block is the block's number. -/
theorem mem_block (j : Fin 7) (i : S512x512.Idx) : i ∈ (blockR j).set ↔ (i 0).val / 64 = j.val := by
  rw [Rect.mem_set_unit]
  constructor
  · intro h
    have h0 : 64 * j.val ≤ (i 0).val ∧ (i 0).val < 64 * j.val + 64 := h 0
    omega
  · intro h a
    fin_cases a
    · show 64 * j.val ≤ (i 0).val ∧ (i 0).val < 64 * j.val + 64; omega
    · exact ⟨Nat.zero_le _, by have : (i 1).val < 512 := (i 1).isLt; simpa using this⟩

/-- The slot's element at a row and a column is the landing buffer's at the slot, the row and the column; -/
theorem slot_emb (j : Fin 7) (x : S64x512.Idx) : (slotM j).view.emb x = ix3 (n0 := 7) j (x 0) (x 1) := by
  show (slotR j).emb (Shape.reshapeEquiv (s := S1x64x512) (s' := S64x512) squeezes_S1x64x512_S64x512.numel_eq x) = _
  have e : Shape.reshapeEquiv (s := S1x64x512) (s' := S64x512) squeezes_S1x64x512_S64x512.numel_eq x
      = Fin.cons (α := fun a => Fin (S1x64x512.size a)) ⟨0, Nat.one_pos⟩ x :=
    Shape.reshapeEquiv_cons_one (d := ![64, 512]) squeezes_S1x64x512_S64x512.numel_eq x
  rw [e]
  funext a
  apply Fin.ext
  rw [Rect.emb_apply]
  fin_cases a
  · show j.val + 1 * 0 = j.val; omega
  · show 0 + 1 * (x 0).val = (x 0).val; omega
  · show 0 + 1 * (x 1).val = (x 1).val; omega
/-- and the block's is the product buffer's at the row counted from the block's first. -/
theorem block_emb (j : Fin 7) (x : S64x512.Idx) :
    (blockM j).view.emb x = ix2 (n0 := 512) ⟨64 * j.val + (x 0).val, by
      have : (x 0).val < 64 := (x 0).isLt; omega⟩ (x 1) := by
  show (blockR j).emb x = _
  funext a
  apply Fin.ext
  rw [Rect.emb_apply]
  fin_cases a
  · show 64 * j.val + 1 * (x 0).val = 64 * j.val + (x 0).val; omega
  · show 0 + 1 * (x 1).val = (x 1).val; omega

/-- What a copy of block `j` leaves in slot `j`: at index `(j, a, b)` of the slot the block's element `(64 j + a, b)`. -/
theorem landing (c : Dev nD) (j : Fin 7) (fd : Vec F S7x64x512 .bf16) (i : S7x64x512.Idx) (hi : i ∈ (slotM j).view.set) :
    (slotM j).view.write (Elt F) fd ((blockM j).view.read (Elt F) (products m c)) Finset.univ i = received m (peer c j) i := by
  obtain ⟨x, -, rfl⟩ := Finset.mem_map.mp hi
  refine (View.write_emb_of_mem (v := (slotM j).view) fd _ (Finset.mem_univ x)).trans ?_
  show products m c ((blockM j).view.emb x) = received m (peer c j) ((slotM j).view.emb x)
  rw [slot_emb, block_emb]
  unfold received
  show _ = products m (peer (peer c j) j.rev) _
  rw [peer_rev]
  rfl

/-! ## The schedule -/

/-- What each cell of device `c` is paid with: its barrier, under the name `k`, the slot `k` of the device it will copy
    its block `k` to; its send cell `j` its block `j` back; its receive cell `j` its slot `j` filled. -/
def payOf (c : Dev nD) : Option Cell → Fin 7 → sProp 𝕄
  | some (.inl _), k => iprop(∃ f, slotPts (peer c k) k f)
  | some (.inr (.inl j)), _ => blockPts c j (products m c)
  | some (.inr (.inr j)), _ => slotPts c j (received m c)
  | none, _ => iprop(emp)
/-- The names of the payments each cell takes, and their sizes. -/
def dutiesOf : Option Cell → Finset (Fin 7)
  | some (.inl _) => Finset.univ
  | some (.inr _) => {0}
  | none => ∅
/-- How much each duty of a cell adds, by the kind of cell. -/
def amountOf : Option Cell → ℕ
  | some (.inl _) => 1
  | _ => N

/-- Every duty adds something. -/
theorem amountOf_pos (k : Option Cell) : 0 < amountOf k := by
  rcases k with _ | ⟨_ | _⟩
  · exact N_pos
  · exact Nat.one_pos
  · exact N_pos

/-- The exchange's schedule: one round. -/
def sched : Rounds.Schedule (GSem nD τ sig) (Fin 7) 𝕄 where
  duties g r := if r = 0 ∧ g.1.2 = .tc then dutiesOf (kindOf g.2) else ∅
  unitless _ := False
  amount g _ _ := amountOf (kindOf g.2)
  payload g _ d := payOf m g.1.1 (kindOf g.2) d
  amount_pos g _ _ _ := amountOf_pos _

/-- Every payload may be kept in an invariant. -/
instance sched_storable (g : GSem nD τ sig) (r : ℕ) (d : Fin 7) :
    BI.Storable (upEmb : UEmb _ 𝕄) ((sched (F := F) m).payload g r d) := by
  show BI.Storable upEmb (payOf m g.1.1 (kindOf g.2) d)
  rcases kindOf g.2 with _ | ⟨_ | _ | _⟩ <;> unfold payOf <;> infer_instance

section Sched
variable (c : Dev nD) (k : Cell) (j d : Fin 7)

/-- The duties of a cell in its round. -/
theorem duties_at : (sched (F := F) m).duties (kcell (c, k)) 0 = dutiesOf (some k) := by
  show (if (0 : ℕ) = 0 ∧ (c : Thread nD τ).2 = .tc then dutiesOf (kindOf (csem k)) else ∅) = _
  rw [kindOf_csem]; exact if_pos ⟨rfl, rfl⟩
/-- No cell has duties after its first round. -/
theorem duties_later (g : GSem nD τ sig) (r : ℕ) (hr : 1 ≤ r) : (sched (F := F) m).duties g r = ∅ :=
  if_neg fun h => by omega
/-- The amount of a duty of a cell in its round. -/
theorem amount_at : (sched (F := F) m).amount (kcell (c, k)) 0 d = amountOf (some k) := by
  show amountOf (kindOf (csem k)) = _; rw [kindOf_csem]
/-- The payload of a duty of a cell in its round. -/
theorem payload_at : (sched (F := F) m).payload (kcell (c, k)) 0 d = payOf m c (some k) d := by
  show payOf m c (kindOf (csem k)) d = _; rw [kindOf_csem]

/-- A barrier cell has seven duties. -/
theorem duties_bar : (sched (F := F) m).duties (barCell c) 0 = Finset.univ := duties_at m c (.inl ())
/-- A send cell has one duty. -/
theorem duties_send : (sched (F := F) m).duties (sendCell c j) 0 = {0} := duties_at m c (.inr (.inl j))
/-- A receive cell has one duty. -/
theorem duties_recv : (sched (F := F) m).duties (recvCell c j) 0 = {0} := duties_at m c (.inr (.inr j))
/-- A barrier duty adds one. -/
theorem amount_bar : (sched (F := F) m).amount (barCell c) 0 d = 1 := amount_at m c (.inl ()) d
/-- A send duty adds one block's credit. -/
theorem amount_send : (sched (F := F) m).amount (sendCell c j) 0 d = N := amount_at m c (.inr (.inl j)) d
/-- A receive duty adds one block's credit. -/
theorem amount_recv : (sched (F := F) m).amount (recvCell c j) 0 d = N := amount_at m c (.inr (.inr j)) d
/-- A barrier signal hands over a slot of the signaller's landing buffer. -/
theorem payload_bar : (sched (F := F) m).payload (barCell c) 0 d = iprop(∃ f, slotPts (peer c d) d f) := payload_at m c (.inl ()) d
/-- A departed copy gives its block back. -/
theorem payload_send : (sched (F := F) m).payload (sendCell c j) 0 d = blockPts c j (products m c) := payload_at m c (.inr (.inl j)) d
/-- An arrived copy gives its slot, filled. -/
theorem payload_recv : (sched (F := F) m).payload (recvCell c j) 0 d = slotPts c j (received m c) := payload_at m c (.inr (.inr j)) d

/-- A barrier cell expects seven. -/
theorem expect_bar : (sched (F := F) m).expect (barCell c) 0 = 7 := by
  unfold Schedule.expect Schedule.amountOf
  rw [duties_bar, Finset.sum_congr rfl fun d _ => amount_bar m c d]; rfl
/-- A send cell expects one block's credit. -/
theorem expect_send : (sched (F := F) m).expect (sendCell c j) 0 = N := by
  unfold Schedule.expect Schedule.amountOf; rw [duties_send, Finset.sum_singleton, amount_send]
/-- A receive cell expects one block's credit. -/
theorem expect_recv : (sched (F := F) m).expect (recvCell c j) 0 = N := by
  unfold Schedule.expect Schedule.amountOf; rw [duties_recv, Finset.sum_singleton, amount_recv]

/-- The payloads of a full barrier cell are seven slots. -/
theorem rest_bar : bigSep ((sched (F := F) m).duties (barCell c) 0 \ ∅) (fun d => (sched (F := F) m).payload (barCell c) 0 d)
    = bigSep Finset.univ fun k : Fin 7 => iprop(∃ f, slotPts (F := F) (peer c k) k f) := by
  rw [Finset.sdiff_empty, duties_bar]; exact bigSep_congr fun d _ => payload_bar m c d
/-- The payload of a full send cell is its block. -/
theorem rest_send : bigSep ((sched (F := F) m).duties (sendCell c j) 0 \ ∅) (fun d => (sched (F := F) m).payload (sendCell c j) 0 d)
    = blockPts c j (products m c) := by
  rw [Finset.sdiff_empty, duties_send, bigSep_singleton, payload_send]
/-- The payload of a full receive cell is its filled slot. -/
theorem rest_recv : bigSep ((sched (F := F) m).duties (recvCell c j) 0 \ ∅) (fun d => (sched (F := F) m).payload (recvCell c j) 0 d)
    = slotPts c j (received m c) := by
  rw [Finset.sdiff_empty, duties_recv, bigSep_singleton, payload_recv]

end Sched

/-! ## What a device owes, and the levels -/

/-- The receive credits still owed when shifts below `n` have been copied, -/
def owedRecv (c : Dev nD) (n : ℕ) : CellTallies nD τ sig Unit :=
  ∑ j ∈ Finset.univ.filter (fun j : Fin 7 => n ≤ j.val), tallyAt (recvCell (peer c j) j) () N
/-- and the barrier units still owed when shifts below `n` have been signalled. -/
def owedBar (c : Dev nD) (n : ℕ) : CellTallies nD τ sig Unit :=
  ∑ j ∈ Finset.univ.filter (fun j : Fin 7 => n ≤ j.val), tallyAt (barCell (peer c j)) () 1
/-- All a device owes at launch. -/
def O₀ (c : Dev nD) : CellTallies nD τ sig Unit := owedRecv c 0 + owedBar c 0

/-- The indices from `j` on are `j` and those after it. -/
theorem from_step (j : Fin 7) : Finset.univ.filter (fun i : Fin 7 => j.val ≤ i.val)
    = insert j (Finset.univ.filter (fun i : Fin 7 => j.val + 1 ≤ i.val)) := by revert j; decide
/-- `j` is not among the indices after it. -/
theorem not_mem_from (j : Fin 7) : j ∉ Finset.univ.filter (fun i : Fin 7 => j.val + 1 ≤ i.val) := by revert j; decide

/-- What is owed to the receive cells before a copy is that copy's credit and what is owed after. -/
theorem owedRecv_step (c : Dev nD) (j : Fin 7) :
    owedRecv c j.val = owedRecv c (j.val + 1) + tallyAt (recvCell (peer c j) j) () N := by
  unfold owedRecv; rw [from_step, Finset.sum_insert (not_mem_from j), add_comm]
/-- What is owed to the barrier cells before a signal is that signal and what is owed after. -/
theorem owedBar_step (c : Dev nD) (j : Fin 7) :
    owedBar c j.val = owedBar c (j.val + 1) + tallyAt (barCell (peer c j)) () 1 := by
  unfold owedBar; rw [from_step, Finset.sum_insert (not_mem_from j), add_comm]
/-- After seven copies no receive cell is owed anything. -/
theorem owedRecv_end (c : Dev nD) : owedRecv c 7 = 0 := by
  unfold owedRecv; rw [show Finset.univ.filter (fun i : Fin 7 => 7 ≤ i.val) = ∅ from by decide, Finset.sum_empty]
/-- After seven signals no barrier cell is owed anything. -/
theorem owedBar_end (c : Dev nD) : owedBar c 7 = 0 := by
  unfold owedBar; rw [show Finset.univ.filter (fun i : Fin 7 => 7 ≤ i.val) = ∅ from by decide, Finset.sum_empty]

/-- What is owed to the receive cells, cell by cell. -/
theorem owedRecv_apply (c : Dev nD) (n : ℕ) (g : GSem nD τ sig) (u : Unit) :
    owedRecv c n g u = ∑ j ∈ Finset.univ.filter (fun j : Fin 7 => n ≤ j.val), (tallyAt (recvCell (peer c j) j) () N : CellTallies nD τ sig Unit) g u := by
  unfold owedRecv; rw [Finset.sum_apply, Finsupp.finset_sum_apply]
/-- What is owed to the barrier cells, cell by cell. -/
theorem owedBar_apply (c : Dev nD) (n : ℕ) (g : GSem nD τ sig) (u : Unit) :
    owedBar c n g u = ∑ j ∈ Finset.univ.filter (fun j : Fin 7 => n ≤ j.val), (tallyAt (barCell (peer c j)) () 1 : CellTallies nD τ sig Unit) g u := by
  unfold owedBar; rw [Finset.sum_apply, Finsupp.finset_sum_apply]

/-- A cell owed a copy is a peer's receive cell. -/
theorem owedRecv_pos {c : Dev nD} {n : ℕ} {g : GSem nD τ sig} {u : Unit} (h : 0 < owedRecv c n g u) :
    ∃ j : Fin 7, g = recvCell (peer c j) j := by
  rw [owedRecv_apply] at h
  by_contra hn
  rw [Finset.sum_eq_zero fun j _ => by rw [tallyAt_apply, if_neg fun h' => hn ⟨j, h'.1⟩]] at h
  exact Nat.lt_irrefl 0 h
/-- A cell owed a signal is a peer's barrier cell. -/
theorem owedBar_pos {c : Dev nD} {n : ℕ} {g : GSem nD τ sig} {u : Unit} (h : 0 < owedBar c n g u) :
    ∃ j : Fin 7, g = barCell (peer c j) := by
  rw [owedBar_apply] at h
  by_contra hn
  rw [Finset.sum_eq_zero fun j _ => by rw [tallyAt_apply, if_neg fun h' => hn ⟨j, h'.1⟩]] at h
  exact Nat.lt_irrefl 0 h
/-- A cell owed anything at the start is a peer's barrier cell or receive cell. -/
theorem O₀_pos {c : Dev nD} {g : GSem nD τ sig} {u : Unit} (h : 0 < O₀ c g u) :
    (∃ j : Fin 7, g = recvCell (peer c j) j) ∨ ∃ j : Fin 7, g = barCell (peer c j) := by
  unfold O₀ at h
  rw [Pi.add_apply, Finsupp.add_apply] at h
  rcases Nat.eq_zero_or_pos (owedRecv c 0 g u) with h0 | h0
  · rw [h0, Nat.zero_add] at h; exact Or.inr (owedBar_pos h)
  · exact Or.inl (owedRecv_pos h0)

/-- Every TensorCore semaphore has the one level. -/
def L (g : GSem nD τ sig) : Finset Unit := if g.1.2 = .tc then {()} else ∅
/-- The level of a cell, by its kind. -/
def levelOf : Option Cell → ℕ
  | some (.inl _) => 1
  | some (.inr (.inr _)) => 2
  | _ => 0
/-- Barrier cells at 1, receive cells at 2, send cells and the windows' at 0. -/
def lv (g : GSem nD τ sig) (_ : Unit) : ℕ := levelOf (kindOf g.2)

/-- Only the cores that run the kernel have labels. -/
theorem L_of_ne (g : GSem nD τ sig) (h : g.1.2 ≠ .tc) : L g = ∅ := if_neg h
/-- A core that runs the kernel has one label at each semaphore. -/
theorem L_tc (c : Dev nD) (sm : SemLoc sig) : L ((c : Thread nD τ), sm) = {()} := if_pos rfl
/-- The level of a cell is that of its kind. -/
theorem lv_at (c : Dev nD) (k : Cell) : lv (kcell (c, k)) () = levelOf (some k) := by
  show levelOf (kindOf (csem k)) = _; rw [kindOf_csem]
/-- A barrier cell is at level one. -/
theorem lv_bar (c : Dev nD) : lv (barCell c) () = 1 := lv_at c (.inl ())
/-- A receive cell is at level two. -/
theorem lv_recv (c : Dev nD) (j : Fin 7) : lv (recvCell c j) () = 2 := lv_at c (.inr (.inr j))

/-- A device may wait on a window's semaphore whatever it owes: those are below all it owes. -/
theorem mayWait_stage (c : Dev nD) (q : DmaSem sig) (hq : levelOf (kindOf (.dma q)) = 0) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact hq.le)
      (fun g u hg => by
        rcases O₀_pos hg with ⟨j, rfl⟩ | ⟨j, rfl⟩
        · exact (lv_recv _ j).symm ▸ by decide
        · exact (lv_bar _).symm ▸ by decide)
  · rw [MayWait_zero]; iintro -; iempintro

/-- A device may wait on its barrier owing receive credits. -/
theorem mayWait_bar (c : Dev nD) : (levAts L lv : sProp 𝕄) ⊢ MayWait (c : Thread nD τ) (.reg barS) () (owedRecv c 0) :=
  MayOwe.of_cut (L := L) (lev := lv) 1 (fun p hp => by rw [Finset.mem_singleton.mp hp, L_tc]; exact Finset.mem_singleton_self _)
    (fun g u hg => by obtain ⟨j, rfl⟩ := owedRecv_pos hg; exact Finset.mem_singleton_self _)
    (fun p hp => by rw [Finset.mem_singleton.mp hp]; exact (lv_bar c).le)
    (fun g u hg => by obtain ⟨j, rfl⟩ := owedRecv_pos hg; exact (lv_recv _ j).symm ▸ by decide)

/-! ## Seven things worked through in order -/

/-- The first `n` of seven done, holding `A`; the others to do, holding `B`. -/
def staged (n : ℕ) (A B : Fin 7 → sProp 𝕄) : sProp 𝕄 := bigSep Finset.univ fun j => if j.val < n then A j else B j

/-- Before the first stage every index is in its second state. -/
theorem staged_zero (A B : Fin 7 → sProp 𝕄) : staged 0 A B = bigSep Finset.univ B :=
  bigSep_congr fun j _ => if_neg (Nat.not_lt_zero _)
/-- After the last stage every index is in its first state. -/
theorem staged_all (A B : Fin 7 → sProp 𝕄) : staged 7 A B = bigSep Finset.univ A :=
  bigSep_congr fun j _ => if_pos j.isLt
/-- Doing the next one. -/
theorem staged_step (A B : Fin 7 → sProp 𝕄) (j : Fin 7) :
    staged j.val A B ⊢ iprop(B j ∗ (A j -∗ staged (j.val + 1) A B)) := by
  unfold staged
  rw [bigSep_univ_at _ j, bigSep_univ_at (fun i : Fin 7 => if i.val < j.val + 1 then A i else B i) j,
    if_neg (Nat.lt_irrefl _), if_pos (Nat.lt_succ_self _),
    bigSep_congr (s := Finset.univ.erase j) (fun i hi => by
      have hne : i.val ≠ j.val := fun h => (Finset.mem_erase.mp hi).1 (Fin.ext h)
      exact (if_congr (by omega) rfl rfl : (if i.val < j.val then A i else B i) = if i.val < j.val + 1 then A i else B i))]
  iintro ⟨HB, Hr⟩
  isplitl [HB]; · iexact HB
  iintro HA
  isplitl [HA] <;> iassumption

end Cert.Exchange

end
-- ==== Proof.Steps.lean ====
/-
# The exchange's steps: one theorem per kind, at any shift

A signal, the wait for the seven signals, a copy, the wait for a copy to leave, the wait for one to land. Each takes
the stage it is at (`signalling`, `sending`, `departing`, `arriving`) from `j` to `j + 1`, for the continuation `k`.
What the program writes at the step (device number, memrefs, semaphores) comes in as variables with an equation to the
shift's own, so that one statement serves all seven.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's loops need no variants. -/
abbrev 𝒱₀ : Variants := Variants.none

variable (m : (ℓ : Loc nD τ sig) → Buf (Elt F) ℓ) (K : Dev nD × Cell → ℕ)

/-! ## What every device knows -/

/-- Every cell's invariant, and that every cell has reached its one round. -/
def records : sProp 𝕄 :=
  iprop((bigSep Finset.univ fun ck : Dev nD × Cell => cellInv ER (sched m) (K ck) (kcell ck))
    ∗ bigSep Finset.univ fun ck : Dev nD × Cell => reached ER (kcell ck) 0)

/-- The records may be used any number of times. -/
instance records_persistent : BI.Persistent (records m K) := by unfold records; infer_instance

/-- The records hold each cell's invariant. -/
theorem records_inv (ck : Dev nD × Cell) : (records m K : sProp 𝕄) ⊢ cellInv ER (sched m) (K ck) (kcell ck) := by
  unfold records
  iintro ⟨HI, -⟩
  iapply (show (bigSep Finset.univ fun ck : Dev nD × Cell => (cellInv ER (sched m) (K ck) (kcell ck) : sProp 𝕄)) ⊢ _ from bigSep_elim (Finset.mem_univ ck))
  iexact HI
/-- The records say that each cell has reached its first round. -/
theorem records_reached (ck : Dev nD × Cell) : (records m K : sProp 𝕄) ⊢ reached ER (kcell ck) 0 := by
  unfold records
  iintro ⟨-, HR⟩
  iapply (show (bigSep Finset.univ fun ck : Dev nD × Cell => (reached ER (kcell ck) 0 : sProp 𝕄)) ⊢ _ from bigSep_elim (Finset.mem_univ ck))
  iexact HR

/-! ## The stages -/

/-- Signals for shifts below `n` sent: the rest's tokens and own slots in hand. -/
def signalling (c : Dev nD) (n : ℕ) : sProp 𝕄 :=
  iprop((∃ W, owes (c : Thread nD τ) (owedRecv c 0 + owedBar c n) W)
    ∗ staged n (fun _ => iprop(emp)) (fun j => iprop(dutyTok ER (barCell (peer c j)) 0 j.rev ∗ ∃ f, slotPts (F := F) c j.rev f)))

/-- Copies for shifts below `n` issued: their departures' credits, and for the rest both tokens and the target slot. -/
def sending (c : Dev nD) (n : ℕ) : sProp 𝕄 :=
  iprop((∃ W, owes (c : Thread nD τ) (owedRecv c n) W)
    ∗ staged n (fun j => cred (tallyAt (sendCell c j) () N))
        (fun j => iprop((dutyTok ER (sendCell c j) 0 0 ∗ dutyTok ER (recvCell (peer c j) j) 0 0) ∗ ∃ f, slotPts (F := F) (peer c j) j f)))

/-- Owing nothing. -/
def settled (c : Dev nD) : sProp 𝕄 := iprop(∃ W, owes (c : Thread nD τ) 0 W)

/-- Departures for shifts below `n` waited for. -/
def departing (c : Dev nD) (n : ℕ) : sProp 𝕄 :=
  staged n (fun j => iprop(atPos ER (sendCell c j) 1 ∅ 0 ∗ blockPts c j (products m c)))
    (fun j => iprop(atPos ER (sendCell c j) 0 ∅ 0 ∗ cred (tallyAt (sendCell c j) () N)))

/-- Arrivals for shifts below `n` waited for. -/
def arriving (c : Dev nD) (n : ℕ) : sProp 𝕄 :=
  staged n (fun j => iprop(atPos ER (recvCell c j) 1 ∅ 0 ∗ slotPts c j (received m c)))
    (fun j => iprop(atPos ER (recvCell c j) 0 ∅ 0 ∗ cred (tallyAt (recvCell c j) () N)))

/-! ## The steps -/

section Steps
variable (c : Dev nD) {α : Type} {k : PUnit → Prog (TpuEff nD τ sig (Elt F) Λ₀ .tc) α} {Q : α → sProp (MT nD τ sig Unit (Elt F) ℕ UU ℕ)}

/-- A signal to the device of shift `j` hands over the device's own slot that shift's partner fills. -/
theorem step_signal (j : Fin 7) {n : Dev nD} {s : Sem sig} {a : ℤ} (hn : n = peer c j) (hs : s = barS) (ha : a = ((1 : ℕ) : ℤ)) :
    iprop(records m K ∗ signalling (F := F) c j.val ∗ (signalling (F := F) c (j.val + 1) -∗ wp frame (wpE (defs₀ (F := F)) 𝒱₀ (c : Thread nD τ) none) Set.univ (k ⟨⟩) Q))
      ⊢ wp frame (wpE (defs₀ (F := F)) 𝒱₀ (c : Thread nD τ) none) Set.univ (.op (.semSignal (n, .tc) s a) k) Q := by
  subst hn hs ha
  unfold signalling
  iintro ⟨#HR, ⟨⟨%W, HO⟩, Hst⟩, Hk⟩
  ihave Hst := (staged_step _ _ j) $$ Hst
  icases Hst with ⟨⟨Htok, %f, Hslot⟩, Hback⟩
  iapply (Rounds.wp_signal 𝒱₀ ER (sched m) (c : Thread nD τ) none (dst := (peer c j : Thread nD τ)) (κ := K (peer c j, .inl ()))
      (d := j.rev) (by rw [duties_bar]; exact Finset.mem_univ _) (amount_bar m (peer c j) j.rev) () (O₀ := owedRecv c 0 + owedBar c j.val) (owedRecv c 0 + owedBar c (j.val + 1))
      (by rw [owedBar_step c j, ← add_assoc])) $$ [HO Htok Hslot]
  · isplitr; · iapply (records_inv m K (peer c j, .inl ())); iexact HR
    isplitl [HO]; · iexact HO
    isplitl [Htok]; · iexact Htok
    isplitl [Hslot]
    · rw [payload_bar, peer_rev]; iexists f; iexact Hslot
    iapply (records_reached m K (peer c j, .inl ())); iexact HR
  iintro HO
  iapply Hk
  isplitl [HO]; · iexists W; iexact HO
  iapply Hback
  iempintro

/-- The wait for the seven signals brings every slot the device will copy into. -/
theorem step_barrier {s : Sem sig} {a : ℤ} (hs : s = barS) (ha : a = ((7 : ℕ) : ℤ)) :
    iprop(records m K ∗ levAts L lv ∗ signalling (F := F) c 7 ∗ (cred (tallyAt (barCell c) () 7) ∗ atPos ER (barCell c) 0 ∅ 0)
        ∗ (bigSep Finset.univ fun j : Fin 7 => iprop(dutyTok ER (sendCell c j) 0 0 ∗ dutyTok ER (recvCell (peer c j) j) 0 0))
        ∗ ((sending (F := F) c 0 ∗ atPos ER (barCell c) 1 ∅ 0) -∗ wp frame (wpE (defs₀ (F := F)) 𝒱₀ (c : Thread nD τ) none) Set.univ (k ⟨⟩) Q))
      ⊢ wp frame (wpE (defs₀ (F := F)) 𝒱₀ (c : Thread nD τ) none) Set.univ (.op (.semWait s a) k) Q := by
  subst hs ha
  unfold signalling sending
  rw [owedBar_end, add_zero, staged_all, staged_zero]
  iintro ⟨#HR, #Hlev, ⟨⟨%W, HO⟩, -⟩, ⟨Hc, Hat⟩, Htoks, Hk⟩
  iapply (Rounds.wp_wait_rest_token 𝒱₀ ER (sched m) (c : Thread nD τ) none (κ := K (c, .inl ()))
      (wpE_semWait_eq 𝒱₀ (c : Thread nD τ) none Set.univ) (Set.mem_univ _) () (O := owedRecv c 0) (W := W) (R := 0) (m := 0) (T := ∅)
      (by rw [expect_bar])) $$ [Hc HO Hat]
  · isplitr; · iapply (records_inv m K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitr [Hat]
  · isplitl [HO]; · iexists _; iexact HO
    iapply (Entails.of_eq (bigSep_sep' (Finset.univ : Finset (Fin 7)) (fun j => iprop(dutyTok ER (sendCell c j) 0 0 ∗ dutyTok ER (recvCell (peer c j) j) 0 0))
      (fun j => iprop(∃ f, slotPts (F := F) (peer c j) j f))).symm)
    isplitl [Htoks]; · iexact Htoks
    iexact Hp
  iexact Hat

/-- The copy for shift `j`, given the block it copies. -/
theorem step_send (j : Fin 7) {n : Dev nD} {src dst : Memref sig .tc .vmem S64x512 .bf16} {sS rS : SemLoc sig}
    (hn : n = peer c j) (hsrc : src = blockM j) (hdst : dst = slotM j) (hsS : sS = .dma (sendS j)) (hrS : rS = .dma (recvS j))
    {hsc : (dst : Memref sig (Dev.tc n : Thread nD τ).2.kind .vmem S64x512 .bf16).view.ref.isScScratch = false}
    {hw : src.view.WordExact} {hw' : dst.view.WordExact}
    {hty : DmaTarget.Typed .vmem rS (.remote (Dev.tc n : Thread nD τ) dst sS hsc)} :
    iprop(records m K ∗ sending (F := F) c j.val ∗ blockPts c j (products m c) ∗ (sending (F := F) c (j.val + 1) -∗ wp frame (wpE (defs₀ (F := F)) 𝒱₀ (c : Thread nD τ) none) Set.univ (k ⟨⟩) Q))
      ⊢ wp frame (wpE (defs₀ (F := F)) 𝒱₀ (c : Thread nD τ) none) Set.univ (.op (.enqueueDma src (.remote (Dev.tc n : Thread nD τ) dst sS hsc) rS hw hw' hty) k) Q := by
  subst hn hsrc hdst hsS hrS
  unfold sending
  iintro ⟨#HR, ⟨⟨%W, HO⟩, Hst⟩, Hblk, Hk⟩
  ihave Hst := (staged_step _ _ j) $$ Hst
  icases Hst with ⟨⟨⟨HtS, HtR⟩, %f, Hslot⟩, Hback⟩
  have hN : (slotM j).view.amount (.dma (recvS j)) = N := slot_credit j
  have h1 : ((blockM j).view.loc (c : Thread nD τ) ↦[(blockM j).view.set]{fullShare} products m c : sProp 𝕄)
      ⊢ (sched m).payload (sendCell c j) 0 0 := by rw [payload_send]; exact BI.Entails.refl _
  have h2 : ((slotM j).view.loc (peer c j : Thread nD τ) ↦[(slotM j).view.set]{fullShare}
        ((slotM j).view.write (Elt F) f ((blockM j).view.read (Elt F) (products m c)) Finset.univ) : sProp 𝕄)
      ⊢ (sched m).payload (recvCell (peer c j) j) 0 0 := by
    rw [payload_recv]; exact Entails.of_eq (pointsTo_congr fun i hi => landing m c j f i hi)
  have e1 : (blockPts c j (products m c) : sProp 𝕄) = ((blockM j).view.loc (c : Thread nD τ) ↦[(blockM j).view.set]{fullShare} products m c) := rfl
  have e2 : (slotPts (peer c j) j f : sProp 𝕄) = ((slotM j).view.loc (peer c j : Thread nD τ) ↦[(slotM j).view.set]{fullShare} f) := rfl
  ihave Hblk := (Entails.of_eq e1) $$ Hblk
  ihave Hslot := (Entails.of_eq e2) $$ Hslot
  ihave #HI1 := (records_inv m K (c, .inr (.inl j))) $$ HR
  ihave #HI2 := (records_inv m K (peer c j, .inr (.inr j))) $$ HR
  ihave #HR1 := (records_reached m K (c, .inr (.inl j))) $$ HR
  ihave #HR2 := (records_reached m K (peer c j, .inr (.inr j))) $$ HR
  iapply (Rounds.wp_send_pointsTo (Q := Q) (k := k) (src := blockM j) (dst := slotM j) (sS := .dma (sendS j)) (sem := .dma (recvS j)) (c' := (peer c j : Thread nD τ))
      (hsc := hsc) (hsrc := hw) (hdst := hw') (hsem := hty) 𝒱₀ ER (sched m) (c : Thread nD τ) none (κ₁ := K (c, .inr (.inl j))) (κ₂ := K (peer c j, .inr (.inr j)))
      (r₁ := 0) (r₂ := 0) (d₁ := 0) (d₂ := 0) (fs := products m c) (fd := f) (defs := defs₀ (F := F)) (Es := Set.univ)
      (by rw [duties_send]; exact Finset.mem_singleton_self _) (by rw [duties_recv]; exact Finset.mem_singleton_self _)
      () () N hN (amount_send m c j 0) (amount_recv m (peer c j) j 0) (owedRecv c (j.val + 1)) (owedRecv_step c j) (W := W) h1 h2) $$ [Hblk Hslot HO HtS HtR]
  · isplitr; · iexact HI1
    isplitr; · iexact HI2
    isplitl [Hblk]; · iexact Hblk
    isplitl [Hslot]; · iexact Hslot
    isplitl [HO]; · iexact HO
    isplitl [HtS]; · iexact HtS
    isplitr; · iexact HR1
    isplitl [HtR]; · iexact HtR
    iexact HR2
  iintro ⟨Hc, HO⟩
  iapply Hk
  isplitl [HO]; · iexists W; iexact HO
  iapply Hback
  iexact Hc

/-- The wait for copy `j` to have left brings the block back. -/
theorem step_depart (j : Fin 7) {q : DmaSem sig} {src dst : Memref sig .tc .vmem S64x512 .bf16} (hq : q = sendS j) (hdst : dst = blockM j)
    {hw : src.view.WordExact} {hw' : dst.view.WordExact} :
    iprop(records m K ∗ settled (F := F) c ∗ departing m c j.val
        ∗ ((settled (F := F) c ∗ departing m c (j.val + 1)) -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 q src dst hw hw') k) Q := by
  subst hq hdst
  unfold settled departing
  iintro ⟨#HR, ⟨%W, HO⟩, Hst, Hk⟩
  ihave Hst := (staged_step _ _ j) $$ Hst
  icases Hst with ⟨⟨Hat, Hc⟩, Hback⟩
  iapply (Rounds.wp_wait_rest_token 𝒱₀ ER (sched m) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (records_inv m K (c, .inr (.inl j))); iexact HR
    isplitl [Hc]; · iexact Hc
    isplitl [HO]; · iexact HO
    isplitr; · rw [MayWait_zero]; iempintro
    iexact Hat
  iintro ⟨HO, Hat, -, Hpay⟩
  ihave Hp := (Entails.of_eq (rest_send m c j)) $$ Hpay
  iapply Hk
  isplitl [HO]; · iexists _; iexact HO
  iapply Hback
  isplitl [Hat]; · iexact Hat
  iexact Hp

/-- The wait for the copy into slot `j` brings the slot, filled. -/
theorem step_arrive (j : Fin 7) {q : DmaSem sig} {src dst : Memref sig .tc .vmem S64x512 .bf16} (hq : q = recvS j) (hdst : dst = slotM j)
    {hw : src.view.WordExact} {hw' : dst.view.WordExact} :
    iprop(records m K ∗ settled (F := F) c ∗ arriving m c j.val
        ∗ ((settled (F := F) c ∗ arriving m c (j.val + 1)) -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 q src dst hw hw') k) Q := by
  subst hq hdst
  unfold settled arriving
  iintro ⟨#HR, ⟨%W, HO⟩, Hst, Hk⟩
  ihave Hst := (staged_step _ _ j) $$ Hst
  icases Hst with ⟨⟨Hat, Hc⟩, Hback⟩
  iapply (Rounds.wp_wait_rest_token 𝒱₀ ER (sched m) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (records_inv m K (c, .inr (.inr j))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c j)) $$ Hpay
  iapply Hk
  isplitl [HO]; · iexists _; iexact HO
  iapply Hback
  isplitl [Hat]; · iexact Hat
  iexact Hp

end Steps

end Cert.Exchange

end
-- ==== Proof.Buffers.lean ====
/-
# What the kernel's stores leave in its scratch buffers

The scaled tokens from two column halves, the turned rows from eight row blocks, the stacked weights from two row
halves, the products from two row halves of a buffer that is by then held piece by piece: each fill's contents are the
plain functions of `Contents`. And how the product buffer splits into its halves and row blocks, and the landing
buffer into its slots.
-/
module

public import proofs.«01_k».proof.Proof.Steps

@[expose] public section

noncomputable section

namespace Cert.Exchange

open Cert.KernelIdeal Cert.KernelIdeal.Gen

open Idealize.ShloMosaic
open Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Unit rectangles -/

/-- A coordinate inside a unit-stride rectangle is the offset plus the coordinate in the rectangle. -/
theorem unit_emb_val {s : Shape} (off size : Fin s.rank → ℕ) (inb) (x : (Rect.unit off size inb).shape.Idx) (a : Fin s.rank) :
    ((Rect.unit off size inb).emb x a : ℕ) = off a + (x a : ℕ) := by
  rw [Rect.emb_apply]; show off a + 1 * (x a : ℕ) = _; omega

/-- A store read where its rectangle places `x`. -/
theorem write_hit_at (b : Ref sig .tc) (r : Rect b.ty.shape) (f : b.ty.Contents (Elt F)) (w : r.shape.Idx → Elt F b.ty.elt)
    (i : b.ty.shape.Idx) (x : r.shape.Idx) (h : i = r.emb x) :
    ((Memref.whole b).access r : View sig .tc _ _ _).write (Elt F) f w Finset.univ i = w x := by
  subst h; exact write_whole_hit b r f w x

/-- Where a rectangle of a rank-two array places an index. -/
theorem emb2 {n0 n1 : ℕ} (off : Fin 2 → ℕ) (sz : Fin 2 → ℕ) (inb) (x : (⟨2, sz⟩ : Shape).Idx) (p : Fin n0) (q : Fin n1)
    (hp : p.val = off 0 + (x 0).val) (hq : q.val = off 1 + (x 1).val) :
    ix2 p q = (Rect.unit (s := ⟨2, ![n0, n1]⟩) off sz inb).emb x := by
  funext a
  apply Fin.ext
  rw [unit_emb_val]
  fin_cases a
  · exact hp
  · exact hq

variable (m : (ℓ : Loc nD τ sig) → Buf (Elt F) ℓ) (c : Dev nD)

/-- The left half of the columns. -/
abbrev rLeft : Rect S512x512 := Rect.unit (s := S512x512) ![0, 0] S512x256.size inb_S512x512_S512x256_0_0
/-- The right half of the columns. -/
abbrev rRight : Rect S512x512 := Rect.unit (s := S512x512) ![0, 256] S512x256.size inb_S512x512_S512x256_0_256
/-- The upper half of the rows. -/
abbrev rTop : Rect S512x512 := Rect.unit (s := S512x512) ![0, 0] S256x512.size inb_S512x512_S256x512_0_0
/-- The lower half of the rows. -/
abbrev rBot : Rect S512x512 := Rect.unit (s := S512x512) ![256, 0] S256x512.size inb_S512x512_S256x512_256_0
/-- The last sixty-four rows: the block a device keeps for itself. -/
abbrev rOwn : Rect S512x512 := Rect.unit (s := S512x512) ![448, 0] S64x512.size inb_S512x512_S64x512_448_0

/-- An entry is in the right half when its column is at least 256. -/
theorem mem_right (i : S512x512.Idx) : i ∈ rRight.set ↔ 256 ≤ (i 1).val := by
  have h0 : (i 0).val < 512 := (i 0).isLt
  have h1 : (i 1).val < 512 := (i 1).isLt
  rw [Rect.mem_set_unit]
  refine ⟨fun h => (h 1).1, fun h a => ?_⟩
  fin_cases a
  · exact ⟨Nat.zero_le _, by show (i 0).val < 0 + 512; omega⟩
  · exact ⟨h, by show (i 1).val < 256 + 256; omega⟩
/-- An entry is in a band of rows when its row lies between the band's ends. -/
theorem mem_rows (a n : ℕ) (inb) (i : S512x512.Idx) :
    i ∈ (Rect.unit (s := S512x512) ![a, 0] ![n, 512] inb).set ↔ a ≤ (i 0).val ∧ (i 0).val < a + n := by
  have h1 : (i 1).val < 512 := (i 1).isLt
  rw [Rect.mem_set_unit]
  refine ⟨fun h => h 0, fun h a => ?_⟩
  fin_cases a
  · exact h
  · exact ⟨Nat.zero_le _, by show (i 1).val < 0 + 512; omega⟩

/-! ## The scaled tokens -/

/-- The two stores over the halves leave the scaled activations. -/
theorem scaled_filled (f : Vec F S512x512 .bf16) :
    (cxM.access rRight : View sig .tc _ _ _).write (Elt F) ((cxM.access rLeft : View sig .tc _ _ _).write (Elt F) f (scaledFst m c) Finset.univ)
      (scaledSnd m c) Finset.univ = scaled m c := by
  funext i
  have h1 : (i 1).val < 512 := (i 1).isLt
  unfold scaled
  by_cases h : (i 1).val < 256
  · rw [dif_pos h]
    refine (write_whole_miss cc0_scratch0 rRight _ _ i (fun hm => by have := (mem_right i).mp hm; omega)).trans ?_
    exact write_hit_at cc0_scratch0 rLeft _ _ i _ (by
      conv_lhs => rw [eq_ix2 i]
      exact emb2 _ _ _ _ _ _ (Nat.zero_add _).symm (Nat.zero_add _).symm)
  · rw [dif_neg h]
    exact write_hit_at cc0_scratch0 rRight _ _ i _ (by
      conv_lhs => rw [eq_ix2 i]
      exact emb2 _ _ _ _ _ _ (Nat.zero_add _).symm (by show (i 1).val = 256 + ((i 1).val - 256); omega))

/-! ## The turned rows, block by block -/

/-- The first `n` row blocks of `f` are the turned rows'. -/
def TurnedTo (n : ℕ) (f : Vec F S512x512 .bf16) : Prop := ∀ i : S512x512.Idx, (i 0).val < 64 * n → f i = turned m c i

/-- Once all eight row blocks are copied, the buffer holds the turned activations. -/
theorem turnedTo_all (f : Vec F S512x512 .bf16) (h : TurnedTo m c 8 f) : f = turned m c :=
  funext fun i => h i (by have : (i 0).val < 512 := (i 0).isLt; omega)

/-- Copying the scaled tokens' row block `c + n + 1` into row block `n`. -/
theorem turnedTo_step (n r : ℕ) (hn : n < 8) (hr : (c.val + r) % 8 = (c.val + (n + 1)) % 8) (off off' : Fin 2 → ℕ) (inb inb')
    (e : off = ![64 * ((c.val + r) % 8), 0]) (e' : off' = ![64 * n, 0]) (f : Vec F S512x512 .bf16) (hf : TurnedTo m c n f) :
    TurnedTo m c (n + 1) ((zM.access (Rect.unit (s := S512x512) off' S64x512.size inb') : View sig .tc _ _ _).write (Elt F) f
      (cxM.view.readAt (Elt F) (Rect.unit (s := S512x512) off S64x512.size inb).toLoadRect (scaled m c)) Finset.univ) := by
  subst e e'
  intro i hi
  by_cases h : (i 0).val < 64 * n
  · rw [← hf i h]
    exact write_whole_miss cc0_scratch1 _ _ _ i (fun hm => by have := ((mem_rows _ _ _ i).mp hm).1; omega)
  · have e0 : (i 0).val / 64 = n := by omega
    refine (write_hit_at cc0_scratch1 _ _ _ i (ix2 (n0 := 64) ⟨(i 0).val % 64, Nat.mod_lt _ (by decide)⟩ (i 1)) (by
      conv_lhs => rw [eq_ix2 i]
      exact emb2 _ _ _ _ _ _ (by show (i 0).val = 64 * n + (i 0).val % 64; omega) (Nat.zero_add _).symm)).trans ?_
    refine (readAt_whole_at cc0_scratch0 _ _ _).trans ?_
    unfold turned
    refine congrArg (scaled m c) ?_
    refine (emb2 (n0 := 512) (n1 := 512) _ _ _ _ _ _ ?_ (Nat.zero_add _).symm).symm
    show 64 * ((c.val + ((i 0).val / 64 + 1)) % 8) + (i 0).val % 64 = 64 * ((c.val + r) % 8) + (i 0).val % 64
    rw [e0, hr]

/-! ## The stacked weights -/

/-- A load of one expert's slab reads that expert's weights. -/
theorem slab_read (e : Fin 2) (inb) :
    ewM.view.readAt (Elt F) (Rect.unit (s := S2x256x512) ![e.val, 0, 0] S1x256x512.size inb).toLoadRect (ewIn m c)
      = fun j => ewIn m c (ix3 (n0 := 2) e (j 1) (j 2)) := by
  funext j
  refine (readAt_whole_at cc0_stg3_0 _ _ _).trans (congrArg (ewIn m c) ?_)
  funext a
  apply Fin.ext
  refine (unit_emb_val (s := S2x256x512) _ _ inb j a).trans ?_
  have h0 : (j 0).val < 1 := (j 0).isLt
  fin_cases a
  · show e.val + (j 0).val = e.val; omega
  · exact Nat.zero_add _
  · exact Nat.zero_add _

/-- The two stores of expert weights leave them stacked one above the other. -/
theorem stacked_filled (f : Vec F S512x512 .bf16) :
    (wM.access rBot : View sig .tc _ _ _).write (Elt F) ((wM.access rTop : View sig .tc _ _ _).write (Elt F) f
        (k0_pay16 (fun j => ewIn m c (ix3 (n0 := 2) 0 (j 1) (j 2)))) Finset.univ)
      (k0_pay17 (fun j => ewIn m c (ix3 (n0 := 2) 1 (j 1) (j 2)))) Finset.univ = stacked m c := by
  funext i
  unfold stacked
  by_cases h : (i 0).val < 256
  · rw [dif_pos h]
    refine (write_whole_miss cc0_scratch2 rBot _ _ i (fun hm => by have := ((mem_rows _ _ _ i).mp hm).1; omega)).trans ?_
    exact write_hit_at cc0_scratch2 rTop _ _ i _ (by
      conv_lhs => rw [eq_ix2 i]
      exact emb2 _ _ _ _ _ _ (Nat.zero_add _).symm (Nat.zero_add _).symm)
  · rw [dif_neg h]
    exact write_hit_at cc0_scratch2 rBot _ _ i _ (by
      conv_lhs => rw [eq_ix2 i]
      exact emb2 _ _ _ _ _ _ (by show (i 0).val = 256 + ((i 0).val - 256); omega) (Nat.zero_add _).symm)

/-! ## The halves read, and the own rows -/

/-- A load of the upper half of the turned buffer reads its upper rows. -/
theorem top_read : zM.view.readAt (Elt F) rTop.toLoadRect (turned m c) = turnedTop m c := by
  funext j
  refine (readAt_whole_at cc0_scratch1 _ _ _).trans (congrArg (turned m c) ?_)
  exact (emb2 (n0 := 512) (n1 := 512) _ _ _ _ _ _ (Nat.zero_add _).symm (Nat.zero_add _).symm).symm
/-- A load of the lower half of the turned buffer reads its lower rows. -/
theorem bot_read : zM.view.readAt (Elt F) rBot.toLoadRect (turned m c) = turnedBot m c := by
  funext j
  refine (readAt_whole_at cc0_scratch1 _ _ _).trans (congrArg (turned m c) ?_)
  exact (emb2 (n0 := 512) (n1 := 512) _ _ _ _ _ _ rfl (Nat.zero_add _).symm).symm
/-- A load of the last row block of the products reads the device's own block. -/
theorem own_read : yM.view.readAt (Elt F) rOwn.toLoadRect (products m c) = ownBlock m c := by
  funext j
  refine (readAt_whole_at cc0_scratch3 _ _ _).trans (congrArg (products m c) ?_)
  exact (emb2 (n0 := 512) (n1 := 512) _ _ _ _ _ _ rfl (Nat.zero_add _).symm).symm
/-- A load of the device's own sixty-four rows of the activations reads those rows. -/
theorem rows_read (off : Fin 2 → ℕ) (inb) (e : off = ![64 * c.val, 0]) :
    xM.view.readAt (Elt F) (Rect.unit (s := S512x256) off S64x256.size inb).toLoadRect (xIn m c) = ownRows m c := by
  subst e
  funext j
  refine (readAt_whole_at cc0_stg0_0 _ _ _).trans (congrArg (xIn m c) ?_)
  exact (emb2 (n0 := 512) (n1 := 256) _ _ _ _ _ _ rfl (Nat.zero_add _).symm).symm

/-! ## The product buffer in pieces -/

/-- The part of the product buffer in `S`. -/
abbrev yPts (S : Finset S512x512.Idx) (f : Vec F S512x512 .bf16) : sProp 𝕄 := ((c : Thread nD τ).loc cc0_scratch3) ↦[S]{fullShare} f

/-- A store of the first product leaves the upper half of the products. -/
theorem top_filled (f : Vec F S512x512 .bf16) :
    (yPts c rTop.set ((yM.access rTop : View sig .tc _ _ _).write (Elt F) f (prodTop m c) Finset.univ) : sProp 𝕄)
      = yPts c rTop.set (products m c) :=
  pointsTo_congr fun i hi => by
    have h : (i 0).val < 256 := by have := (mem_rows _ _ _ i).mp hi; omega
    unfold products; rw [dif_pos h]
    exact write_hit_at cc0_scratch3 rTop _ _ i _ (by
      conv_lhs => rw [eq_ix2 i]
      exact emb2 _ _ _ _ _ _ (Nat.zero_add _).symm (Nat.zero_add _).symm)
/-- A store of the second product leaves the lower half of the products. -/
theorem bot_filled (f : Vec F S512x512 .bf16) :
    (yPts c rBot.set ((yM.access rBot : View sig .tc _ _ _).write (Elt F) f (prodBot m c) Finset.univ) : sProp 𝕄)
      = yPts c rBot.set (products m c) :=
  pointsTo_congr fun i hi => by
    have h : ¬ (i 0).val < 256 := by have := (mem_rows _ _ _ i).mp hi; omega
    unfold products; rw [dif_neg h]
    exact write_hit_at cc0_scratch3 rBot _ _ i _ (by
      conv_lhs => rw [eq_ix2 i]
      exact emb2 _ _ _ _ _ _ (by show (i 0).val = 256 + ((i 0).val - 256); omega) (Nat.zero_add _).symm)

/-- The product buffer splits into its two halves. -/
theorem y_halves (f : Vec F S512x512 .bf16) :
    (yPts c Finset.univ f : sProp 𝕄) ⊢ iprop(yPts c rTop.set f ∗ yPts c rBot.set f) := by
  have hd : Disjoint rTop.set rBot.set := Finset.disjoint_left.mpr fun i h h' => by
    have := (mem_rows _ _ _ i).mp h; have := (mem_rows _ _ _ i).mp h'; omega
  have hu : (Finset.univ : Finset S512x512.Idx) = rTop.set ∪ rBot.set := by
    ext i
    have h0 : (i 0).val < 512 := (i 0).isLt
    simp only [Finset.mem_univ, true_iff, Finset.mem_union]
    by_cases h : (i 0).val < 256
    · exact Or.inl ((mem_rows _ _ _ i).mpr ⟨Nat.zero_le _, by omega⟩)
    · exact Or.inr ((mem_rows _ _ _ i).mpr ⟨by omega, by omega⟩)
  rw [hu]
  exact (pointsTo_union hd).1

/-- The rows of the blocks in `T`, `7` naming the device's own. -/
def rowsOf (T : Finset (Fin 8)) : Finset S512x512.Idx :=
  T.biUnion fun j => Finset.univ.filter fun i : S512x512.Idx => (i 0).val / 64 = j.val

/-- An entry is in a set of row blocks when its row's block is among them. -/
theorem mem_rowsOf (T : Finset (Fin 8)) (i : S512x512.Idx) : i ∈ rowsOf T ↔ ∃ j ∈ T, (i 0).val / 64 = j.val := by
  unfold rowsOf; simp only [Finset.mem_biUnion, Finset.mem_filter, Finset.mem_univ, true_and]

/-- A set of row blocks of the products is held block by block. -/
theorem y_rowsOf (T : Finset (Fin 8)) (f : Vec F S512x512 .bf16) :
    (yPts c (rowsOf T) f : sProp 𝕄) = bigSep T fun j => yPts c (Finset.univ.filter fun i : S512x512.Idx => (i 0).val / 64 = j.val) f :=
  pointsTo_biUnion T _ fun t _ t' _ hne => Finset.disjoint_left.mpr fun i h h' =>
    hne (Fin.ext ((Finset.mem_filter.mp h).2.symm.trans (Finset.mem_filter.mp h').2))

/-- A sent block is one block of sixty-four rows. -/
theorem blockPts_rows (j : Fin 7) (f : Vec F S512x512 .bf16) :
    (blockPts c j f : sProp 𝕄) = yPts c (Finset.univ.filter fun i : S512x512.Idx => (i 0).val / 64 = (j.castSucc : Fin 8).val) f := by
  unfold blockPts
  rw [block_set, show (blockR j).set = Finset.univ.filter fun i : S512x512.Idx => (i 0).val / 64 = (j.castSucc : Fin 8).val from by
    ext i; rw [mem_block]; simp]

/-- The device's own row block of the products. -/
def ownPts (f : Vec F S512x512 .bf16) : sProp 𝕄 := yPts c rOwn.set f

/-- The kept block is the eighth block of sixty-four rows. -/
theorem ownPts_rows (f : Vec F S512x512 .bf16) :
    (ownPts c f : sProp 𝕄) = yPts c (Finset.univ.filter fun i : S512x512.Idx => (i 0).val / 64 = (7 : Fin 8).val) f := by
  unfold ownPts
  rw [show rOwn.set = Finset.univ.filter fun i : S512x512.Idx => (i 0).val / 64 = (7 : Fin 8).val from by
    ext i
    have h0 : (i 0).val < 512 := (i 0).isLt
    have e7 : ((7 : Fin 8) : ℕ) = 7 := rfl
    rw [mem_rows, Finset.mem_filter, e7]
    simp only [Finset.mem_univ, true_and]
    omega]

/-- The upper half of the products is the first four blocks. -/
theorem top_blocks (f : Vec F S512x512 .bf16) :
    (yPts c rTop.set f : sProp 𝕄) = iprop(blockPts c 0 f ∗ blockPts c 1 f ∗ blockPts c 2 f ∗ blockPts c 3 f) := by
  rw [show rTop.set = rowsOf {0, 1, 2, 3} from by
    ext i
    have h0 : (i 0).val < 512 := (i 0).isLt
    rw [mem_rows, mem_rowsOf]
    simp only [Finset.mem_insert, Finset.mem_singleton, exists_eq_or_imp, exists_eq_left]
    show _ ↔ (i 0).val / 64 = 0 ∨ (i 0).val / 64 = 1 ∨ (i 0).val / 64 = 2 ∨ (i 0).val / 64 = 3
    omega, y_rowsOf, bigSep_eq_bigSepL_of_eq [0, 1, 2, 3] (by decide) (by decide)]
  simp only [blockPts_rows]
  rfl
/-- The lower half of the products is three more blocks and the device's own. -/
theorem bot_blocks (f : Vec F S512x512 .bf16) :
    (yPts c rBot.set f : sProp 𝕄) = iprop(blockPts c 4 f ∗ blockPts c 5 f ∗ blockPts c 6 f ∗ ownPts c f) := by
  rw [show rBot.set = rowsOf {4, 5, 6, 7} from by
    ext i
    have h0 : (i 0).val < 512 := (i 0).isLt
    rw [mem_rows, mem_rowsOf]
    simp only [Finset.mem_insert, Finset.mem_singleton, exists_eq_or_imp, exists_eq_left]
    show _ ↔ (i 0).val / 64 = 4 ∨ (i 0).val / 64 = 5 ∨ (i 0).val / 64 = 6 ∨ (i 0).val / 64 = 7
    omega, y_rowsOf, bigSep_eq_bigSepL_of_eq [4, 5, 6, 7] (by decide) (by decide)]
  simp only [blockPts_rows, ownPts_rows]
  rfl
/-- The seven sent blocks and the kept one make up the product buffer. -/
theorem y_blocks (f : Vec F S512x512 .bf16) :
    iprop((bigSep Finset.univ fun j : Fin 7 => blockPts c j f) ∗ ownPts c f) ⊢ (yPts c Finset.univ f : sProp 𝕄) := by
  rw [show (Finset.univ : Finset S512x512.Idx) = rowsOf Finset.univ from by
    ext i
    have h0 : (i 0).val < 512 := (i 0).isLt
    simp only [Finset.mem_univ, true_iff, mem_rowsOf, true_and]
    exact ⟨⟨(i 0).val / 64, by omega⟩, rfl⟩, y_rowsOf, bigSep_univ_at _ (7 : Fin 8),
    show Finset.univ.erase (7 : Fin 8) = Finset.univ.map (Fin.castSuccEmb (n := 7)) from by decide, bigSep_map, ownPts_rows]
  simp only [blockPts_rows]
  iintro ⟨H, H'⟩
  isplitl [H']; · iexact H'
  iexact H

/-! ## The landing buffer in slots -/

/-- The landing buffer is its seven slots. -/
theorem k_slots (f : Vec F S7x64x512 .bf16) :
    (((c : Thread nD τ).loc cc0_scratch4) ↦{fullShare} f : sProp 𝕄) = bigSep Finset.univ fun j : Fin 7 => slotPts c j f := by
  have hu : (Finset.univ : Finset S7x64x512.Idx) = Finset.univ.biUnion fun j : Fin 7 => (slotR j).set := by
    ext i
    simp only [Finset.mem_univ, Finset.mem_biUnion, true_and, true_iff]
    exact ⟨i 0, (mem_slot _ i).mpr rfl⟩
  show (((c : Thread nD τ).loc cc0_scratch4) ↦[(Finset.univ : Finset S7x64x512.Idx)]{fullShare} f : sProp 𝕄) = _
  rw [hu]
  refine (pointsTo_biUnion Finset.univ _ fun t _ t' _ hne => Finset.disjoint_left.mpr fun i h h' =>
    hne (Fin.ext (((mem_slot t i).mp h).symm.trans ((mem_slot t' i).mp h')))).trans ?_
  refine bigSep_congr fun j _ => ?_
  unfold slotPts; rw [slot_set]

end Cert.Exchange

end
-- ==== Proof.BodyFill.lean ====
/-
# The kernel's body up to the products: signals, the barrier, and the scratch buffers filled

One theorem per printed part of the body, each for any continuation `Q`, taking only what the part touches.
-/
module

public import proofs.«01_k».proof.Proof.Buffers
public import Idealize.ShloMosaic.Lib.Pipeline.Value

@[expose] public section

noncomputable section

namespace Cert.Exchange

open Cert.KernelIdeal Cert.KernelIdeal.Gen

open Idealize.ShloMosaic
open Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- Device `c`'s buffer `b`, whole, at contents `X`. -/
abbrev held (b : Ref sig .tc) (X : b.ty.Contents (Elt F)) : sProp 𝕄 := ((c : Thread nD τ).loc b) ↦{fullShare} X

/-- The zero offset of a matrix is zero on every axis. -/
theorem hz2 : (![0, 0] : Fin 2 → ℕ) = fun _ => 0 := funext fun a => by fin_cases a <;> rfl
/-- The zero offset of a rank-three buffer is zero on every axis. -/
theorem hz3 : (![0, 0, 0] : Fin 3 → ℕ) = fun _ => 0 := funext fun a => by fin_cases a <;> rfl

/-- A load of a whole buffer reads its contents. -/
theorem whole_x (f : Vec F S512x256 .bf16) :
    xM.view.readAt (Elt F) (Rect.unit (s := S512x256) ![0, 0] S512x256.size inb_S512x256_S512x256_0_0).toLoadRect f = f :=
  Memref.readAt_unit_zero (Elt F) cc0_stg0_0 hz2 _ f
/-- A load of all the router weights reads them unchanged. -/
theorem whole_rw (f : Vec F S256x16 .bf16) :
    rwM.view.readAt (Elt F) (Rect.unit (s := S256x16) ![0, 0] S256x16.size inb_S256x16_S256x16_0_0).toLoadRect f = f :=
  Memref.readAt_unit_zero (Elt F) cc0_stg1_0 hz2 _ f
/-- A load of all the indices reads them unchanged. -/
theorem whole_idx (f : Vec F S512x1 .i32) :
    idxM.view.readAt (Elt F) (Rect.unit (s := S512x1) ![0, 0] S512x1.size inb_S512x1_S512x1_0_0).toLoadRect f = f :=
  Memref.readAt_unit_zero (Elt F) cc0_stg2_0 hz2 _ f
/-- A load of all the shared weights reads them unchanged. -/
theorem whole_sw (f : Vec F S256x512 .bf16) :
    swM.view.readAt (Elt F) (Rect.unit (s := S256x512) ![0, 0] S256x512.size inb_S256x512_S256x512_0_0).toLoadRect f = f :=
  Memref.readAt_unit_zero (Elt F) cc0_stg4_0 hz2 _ f
/-- A load of all the stacked expert weights reads them unchanged. -/
theorem whole_w (f : Vec F S512x512 .bf16) :
    wM.view.readAt (Elt F) (Rect.unit (s := S512x512) ![0, 0] S512x512.size inb_S512x512_S512x512_0_0).toLoadRect f = f :=
  Memref.readAt_unit_zero (Elt F) cc0_scratch2 hz2 _ f
/-- A load of the whole landing buffer reads it unchanged. -/
theorem whole_k (f : Vec F S7x64x512 .bf16) :
    kM.view.readAt (Elt F) (Rect.unit (s := S7x64x512) ![0, 0, 0] S7x64x512.size inb_S7x64x512_S7x64x512_0_0_0).toLoadRect f = f :=
  Memref.readAt_unit_zero (Elt F) cc0_scratch4 hz3 _ f

/-- The device numbers the program computes are the shifts'. -/
theorem dev1_eq : (⟨k0_dev1 c, k0_dev1_lt c⟩ : Dev nD) = peer c 0 := Fin.ext (k0_dev1_eq c)
/-- The second signal goes to the second peer. -/
theorem dev2_eq : (⟨k0_dev2 c, k0_dev2_lt c⟩ : Dev nD) = peer c 1 := Fin.ext (k0_dev2_eq c)
/-- The third signal goes to the third peer. -/
theorem dev3_eq : (⟨k0_dev3 c, k0_dev3_lt c⟩ : Dev nD) = peer c 2 := Fin.ext (k0_dev3_eq c)
/-- The fourth signal goes to the fourth peer. -/
theorem dev4_eq : (⟨k0_dev4 c, k0_dev4_lt c⟩ : Dev nD) = peer c 3 := Fin.ext (k0_dev4_eq c)
/-- The fifth signal goes to the fifth peer. -/
theorem dev5_eq : (⟨k0_dev5 c, k0_dev5_lt c⟩ : Dev nD) = peer c 4 := Fin.ext (k0_dev5_eq c)
/-- The sixth signal goes to the sixth peer. -/
theorem dev6_eq : (⟨k0_dev6 c, k0_dev6_lt c⟩ : Dev nD) = peer c 5 := Fin.ext (k0_dev6_eq c)
/-- The seventh signal goes to the seventh peer. -/
theorem dev7_eq : (⟨k0_dev7 c, k0_dev7_lt c⟩ : Dev nD) = peer c 6 := Fin.ext (k0_dev7_eq c)

/-! ## The signals and the barrier -/

/-- The first part reads the device's number and sends the first five barrier signals. -/
theorem part1 (Q : (Σ' (d0 : Dev nD) (v2 : BitVec 32) (v3 : Sems sig S_) (v24 : BitVec 32), BitVec 32) → sProp 𝕄) :
    iprop(records m K ∗ signalling (F := F) c 0
        ∗ (∀ w w', signalling (F := F) c 5 -∗ Q ⟨c, place c, SemArray.scalar (sig.barrier 0 rfl), w, w'⟩))
      ⊢ wp frame (wpE (defs₀ (F := F)) 𝒱₀ (c : Thread nD τ) none) Set.univ
          (k0_part1 xM (Memref.isWhole_whole _) rwM (Memref.isWhole_whole _) idxM (Memref.isWhole_whole _) ewM (Memref.isWhole_whole _)
            swM (Memref.isWhole_whole _) outM (Memref.isWhole_whole _) cxM (Memref.isWhole_whole _) zM (Memref.isWhole_whole _)
            wM (Memref.isWhole_whole _) yM (Memref.isWhole_whole _) kM (Memref.isWhole_whole _) cc0_scratch5 cc0_scratch6) Q := by
  rw [k0_part1_eq_skeleton]; unfold k0_part1_skel place
  simp only [semSignalWord, semWaitWord, Prog.lift, Prog.bind_op, Prog.bind_ret, Prog.pure_eq_ret, wp_deviceId]
  iintro ⟨#HR, HS, Hk⟩
  iapply (step_signal m K c 0 (dev1_eq c) rfl (by decide)); isplitr; · iexact HR
  isplitl [HS]; · iexact HS
  iintro HS
  iapply (step_signal m K c 1 (dev2_eq c) rfl (by decide)); isplitr; · iexact HR
  isplitl [HS]; · iexact HS
  iintro HS
  iapply (step_signal m K c 2 (dev3_eq c) rfl (by decide)); isplitr; · iexact HR
  isplitl [HS]; · iexact HS
  iintro HS
  iapply (step_signal m K c 3 (dev4_eq c) rfl (by decide)); isplitr; · iexact HR
  isplitl [HS]; · iexact HS
  iintro HS
  iapply (step_signal m K c 4 (dev5_eq c) rfl (by decide)); isplitr; · iexact HR
  isplitl [HS]; · iexact HS
  iintro HS
  rw [wp_ret]; imodintro
  iapply Hk
  iexact HS

/-- The second part sends the last two signals, waits at the barrier, loads the inputs and computes the routing coefficient. -/
theorem part2 (w w' : BitVec 32) (Q : (Σ' (v33 : FVec F S512x256 .bf16) (v47 : IVec S512x1 32) (v54 : FVec F S512x1 .f32) (v55 : BitVec 32) (v57 : IVec S512x1 1), FVec F S512x1 .f32) → sProp 𝕄) :
    iprop(records m K ∗ levAts L lv ∗ signalling (F := F) c 5 ∗ (cred (tallyAt (barCell c) () 7) ∗ Rounds.atPos ER (barCell c) 0 ∅ 0)
        ∗ (bigSep Finset.univ fun j : Fin 7 => iprop(Rounds.dutyTok ER (sendCell c j) 0 0 ∗ Rounds.dutyTok ER (recvCell (peer c j) j) 0 0))
        ∗ held c cc0_stg0_0 (xIn m c) ∗ held c cc0_stg1_0 (rwIn m c) ∗ held c cc0_stg2_0 (idxIn m c)
        ∗ ((sending (F := F) c 0 ∗ Rounds.atPos ER (barCell c) 1 ∅ 0 ∗ held c cc0_stg0_0 (xIn m c) ∗ held c cc0_stg1_0 (rwIn m c) ∗ held c cc0_stg2_0 (idxIn m c))
            -∗ Q ⟨k0_pay1 (xIn m c), k0_pay2 (F := F) (idxIn m c), k0_pay3 (xIn m c) (rwIn m c) (idxIn m c), Scalar.muli (place c) 2#32,
                k0_pay4 (F := F) (place c) (idxIn m c), k0_pay5⟩))
      ⊢ wp frame (wpE (defs₀ (F := F)) 𝒱₀ (c : Thread nD τ) none) Set.univ
          (k0_part2 xM (Memref.isWhole_whole _) rwM (Memref.isWhole_whole _) idxM (Memref.isWhole_whole _) ewM (Memref.isWhole_whole _)
            swM (Memref.isWhole_whole _) outM (Memref.isWhole_whole _) cxM (Memref.isWhole_whole _) zM (Memref.isWhole_whole _)
            wM (Memref.isWhole_whole _) yM (Memref.isWhole_whole _) kM (Memref.isWhole_whole _) cc0_scratch5 cc0_scratch6
            c (place c) (SemArray.scalar (sig.barrier 0 rfl)) w w') Q := by
  rw [k0_part2_eq_skeleton]; unfold k0_part2_skel
  simp only [semSignalWord, semWaitWord, Prog.lift, Prog.bind_op, Prog.bind_ret, Prog.pure_eq_ret]
  iintro ⟨#HR, #Hlev, HS, HB, HT, Hx, Hrw, Hix, Hk⟩
  iapply (step_signal m K c 5 (dev6_eq c) rfl (by decide)); isplitr; · iexact HR
  isplitl [HS]; · iexact HS
  iintro HS
  iapply (step_signal m K c 6 (dev7_eq c) rfl (by decide)); isplitr; · iexact HR
  isplitl [HS]; · iexact HS
  iintro HS
  iapply (step_barrier m K c rfl (by decide)); isplitr; · iexact HR
  isplitr; · iexact Hlev
  isplitl [HS]; · iexact HS
  isplitl [HB]; · iexact HB
  isplitl [HT]; · iexact HT
  iintro ⟨HS, Hat⟩
  iapply (wp_load 𝒱₀ (c : Thread nD τ) none Set.univ (m := xM) (Finset.subset_univ _)) $$ Hx; iintro Hx
  rw [whole_x]
  iapply (wp_load 𝒱₀ (c : Thread nD τ) none Set.univ (m := rwM) (Finset.subset_univ _)) $$ Hrw; iintro Hrw
  rw [whole_rw]
  iapply (wp_load 𝒱₀ (c : Thread nD τ) none Set.univ (m := idxM) (Finset.subset_univ _)) $$ Hix; iintro Hix
  rw [whole_idx, wp_ret]; imodintro
  iapply Hk
  isplitl [HS]; · iexact HS
  isplitl [Hat]; · iexact Hat
  isplitl [Hx]; · iexact Hx
  isplitl [Hrw]; · iexact Hrw
  iexact Hix

/-! ## The scratch buffers -/

/-- The turned rows' buffer with its first `n` blocks filled. -/
def turning (n : ℕ) : sProp 𝕄 := iprop(∃ f : Vec F S512x512 .bf16, ⌜TurnedTo m c n f⌝ ∗ held c cc0_scratch1 f)

/-- One row block read from the scaled tokens, and stored into the turned rows after a load of what was there. -/
theorem step_turn (n r : ℕ) (hn : n < 8) (hr : (c.val + r) % 8 = (c.val + (n + 1)) % 8) {off off' : Fin 2 → ℕ} {inb inb'}
    (e : off = ![64 * ((c.val + r) % 8), 0]) (e' : off' = ![64 * n, 0])
    {pay : Vec F S64x512 .bf16 → FVec F S64x512 .bf16} (hp : ∀ v, pay v = v)
    {α : Type} {Q : α → sProp (MT nD τ sig Unit (Elt F) ℕ UU ℕ)} {k : PUnit → Prog (TpuEff nD τ sig (Elt F) Λ₀ .tc) α}
    {hl hl' : _} {hx : (v : Vec F S64x512 .bf16) → _} {hm : _} :
    iprop(held c cc0_scratch0 (scaled m c) ∗ turning m c n
        ∗ ((held c cc0_scratch0 (scaled m c) ∗ turning m c (n + 1)) -∗ wp frame (wpE (defs₀ (F := F)) 𝒱₀ (c : Thread nD τ) none) Set.univ (k ⟨⟩) Q))
      ⊢ wp frame (wpE (defs₀ (F := F)) 𝒱₀ (c : Thread nD τ) none) Set.univ
          (.op (.load cxM (Rect.unit (s := S512x512) off S64x512.size inb).toLoadRect hl) fun v =>
            .op (.load zM (Rect.unit (s := S512x512) off' S64x512.size inb').toLoadRect hl') fun _ =>
              .op (.store zM (Rect.unit (s := S512x512) off' S64x512.size inb') (pay v) Finset.univ (hx v) hm) k) Q := by
  unfold turning
  iintro ⟨Hcx, ⟨%f, %hf, Hz⟩, Hk⟩
  iapply (wp_load 𝒱₀ (c : Thread nD τ) none Set.univ (m := cxM) (Finset.subset_univ _)) $$ Hcx; iintro Hcx
  iapply (wp_load 𝒱₀ (c : Thread nD τ) none Set.univ (m := zM) (Finset.subset_univ _)) $$ Hz; iintro Hz
  iapply (wp_store 𝒱₀ (c : Thread nD τ) none Set.univ (m := zM) (r := Rect.unit (s := S512x512) off' S64x512.size inb') (Mk := Finset.univ) (Finset.subset_univ _)) $$ Hz; iintro Hz
  rw [hp]
  iapply Hk
  isplitl [Hcx]; · iexact Hcx
  iexists _
  isplitr
  · ipureintro; exact turnedTo_step m c n r hn hr off off' inb inb' e e' f hf
  iexact Hz

/-- The scaled tokens as the two stores leave them. -/
theorem scaled_stored (f : Vec F S512x512 .bf16) :
    iprop(View.loc (c : Thread nD τ) (cxM.access rRight) ↦{fullShare}
        View.write (Elt F) (cxM.access rRight)
          (View.write (Elt F) (cxM.access rLeft) f
            (k0_pay6 (k0_pay1 (xIn m c)) (k0_pay3 (xIn m c) (rwIn m c) (idxIn m c)) (k0_pay4 (F := F) (place c) (idxIn m c)) k0_pay5) Finset.univ)
          (k0_pay7 (k0_pay1 (xIn m c)) (k0_pay2 (F := F) (idxIn m c)) (k0_pay3 (xIn m c) (rwIn m c) (idxIn m c)) (Scalar.muli (place c) 2#32)) Finset.univ)
      ⊢ (held c cc0_scratch0 (scaled m c) : sProp 𝕄) :=
  Entails.of_eq (congrArg (held c cc0_scratch0) (scaled_filled m c f))

/-- The third part stores both scaled halves and copies the first two row blocks into the turned buffer. -/
theorem part3 (Q : BitVec 32 → sProp 𝕄) :
    iprop((∃ f, held c cc0_scratch0 f) ∗ turning m c 0
        ∗ (∀ w, (held c cc0_scratch0 (scaled m c) ∗ turning m c 2) -∗ Q w))
      ⊢ wp frame (wpE (defs₀ (F := F)) 𝒱₀ (c : Thread nD τ) none) Set.univ
          (k0_part3 xM (Memref.isWhole_whole _) rwM (Memref.isWhole_whole _) idxM (Memref.isWhole_whole _) ewM (Memref.isWhole_whole _)
            swM (Memref.isWhole_whole _) outM (Memref.isWhole_whole _) cxM (Memref.isWhole_whole _) zM (Memref.isWhole_whole _)
            wM (Memref.isWhole_whole _) yM (Memref.isWhole_whole _) kM (Memref.isWhole_whole _) cc0_scratch5 cc0_scratch6
            c (place c) (k0_pay1 (xIn m c)) (k0_pay2 (F := F) (idxIn m c)) (k0_pay3 (xIn m c) (rwIn m c) (idxIn m c)) (Scalar.muli (place c) 2#32)
            (k0_pay4 (F := F) (place c) (idxIn m c)) k0_pay5) Q := by
  rw [k0_part3_eq_skeleton]; unfold k0_part3_skel
  simp only [Prog.lift, Prog.bind_op, Prog.bind_ret, Prog.pure_eq_ret]
  iintro ⟨⟨%f, Hcx⟩, Hz, Hk⟩
  iapply (wp_load 𝒱₀ (c : Thread nD τ) none Set.univ (m := cxM) (Finset.subset_univ _)) $$ Hcx; iintro Hcx
  iapply (wp_store 𝒱₀ (c : Thread nD τ) none Set.univ (m := cxM) (r := rLeft) (Mk := Finset.univ) (Finset.subset_univ _)) $$ Hcx; iintro Hcx
  iapply (wp_load 𝒱₀ (c : Thread nD τ) none Set.univ (m := cxM) (Finset.subset_univ _)) $$ Hcx; iintro Hcx
  iapply (wp_store 𝒱₀ (c : Thread nD τ) none Set.univ (m := cxM) (r := rRight) (Mk := Finset.univ) (Finset.subset_univ _)) $$ Hcx; iintro Hcx
  ihave Hcx := (scaled_stored m c f) $$ Hcx
  iapply (step_turn m c 0 1 (by decide) rfl (k0_off1_eq c 1) rfl (fun v => shapeCast_self v _))
  isplitl [Hcx]; · iexact Hcx
  isplitl [Hz]; · iexact Hz
  iintro ⟨Hcx, Hz⟩
  iapply (step_turn m c 1 2 (by decide) rfl (k0_off1_eq c 2) rfl (fun v => shapeCast_self v _))
  isplitl [Hcx]; · iexact Hcx
  isplitl [Hz]; · iexact Hz
  iintro ⟨Hcx, Hz⟩
  rw [wp_ret]; imodintro
  iapply Hk
  isplitl [Hcx]; · iexact Hcx
  iexact Hz

/-- The fourth part copies the next four row blocks into the turned buffer. -/
theorem part4 (w : BitVec 32) (Q : BitVec 32 → sProp 𝕄) :
    iprop(held c cc0_scratch0 (scaled m c) ∗ turning m c 2
        ∗ (∀ w, (held c cc0_scratch0 (scaled m c) ∗ turning m c 6) -∗ Q w))
      ⊢ wp frame (wpE (defs₀ (F := F)) 𝒱₀ (c : Thread nD τ) none) Set.univ
          (k0_part4 xM (Memref.isWhole_whole _) rwM (Memref.isWhole_whole _) idxM (Memref.isWhole_whole _) ewM (Memref.isWhole_whole _)
            swM (Memref.isWhole_whole _) outM (Memref.isWhole_whole _) cxM (Memref.isWhole_whole _) zM (Memref.isWhole_whole _)
            wM (Memref.isWhole_whole _) yM (Memref.isWhole_whole _) kM (Memref.isWhole_whole _) cc0_scratch5 cc0_scratch6
            c (place c) w) Q := by
  rw [k0_part4_eq_skeleton]; unfold k0_part4_skel
  simp only [Prog.lift, Prog.bind_op, Prog.bind_ret, Prog.pure_eq_ret]
  iintro ⟨Hcx, Hz, Hk⟩
  iapply (step_turn m c 2 3 (by decide) rfl (k0_off1_eq c 3) rfl (fun v => shapeCast_self v _))
  isplitl [Hcx]; · iexact Hcx
  isplitl [Hz]; · iexact Hz
  iintro ⟨Hcx, Hz⟩
  iapply (step_turn m c 3 4 (by decide) rfl (k0_off1_eq c 4) rfl (fun v => shapeCast_self v _))
  isplitl [Hcx]; · iexact Hcx
  isplitl [Hz]; · iexact Hz
  iintro ⟨Hcx, Hz⟩
  iapply (step_turn m c 4 5 (by decide) rfl (k0_off1_eq c 5) rfl (fun v => shapeCast_self v _))
  isplitl [Hcx]; · iexact Hcx
  isplitl [Hz]; · iexact Hz
  iintro ⟨Hcx, Hz⟩
  iapply (step_turn m c 5 6 (by decide) rfl (k0_off1_eq c 6) rfl (fun v => shapeCast_self v _))
  isplitl [Hcx]; · iexact Hcx
  isplitl [Hz]; · iexact Hz
  iintro ⟨Hcx, Hz⟩
  rw [wp_ret]; imodintro
  iapply Hk
  isplitl [Hcx]; · iexact Hcx
  iexact Hz

/-- The weights' buffer as the two stores leave it. -/
theorem stacked_stored (f : Vec F S512x512 .bf16) {inb0 inb1} :
    iprop(View.loc (c : Thread nD τ) (wM.access rBot) ↦{fullShare}
        View.write (Elt F) (wM.access rBot)
          (View.write (Elt F) (wM.access rTop) f
            (k0_pay16 (ewM.view.readAt (Elt F) (Rect.unit (s := S2x256x512) ![0, 0, 0] S1x256x512.size inb0).toLoadRect (ewIn m c))) Finset.univ)
          (k0_pay17 (ewM.view.readAt (Elt F) (Rect.unit (s := S2x256x512) ![1, 0, 0] S1x256x512.size inb1).toLoadRect (ewIn m c))) Finset.univ)
      ⊢ (held c cc0_scratch2 (stacked m c) : sProp 𝕄) := by
  have e0 := slab_read m c 0 inb0
  have e1 := slab_read m c 1 inb1
  refine Entails.of_eq (congrArg (held c cc0_scratch2) (Eq.trans ?_ (stacked_filled m c f)))
  exact congrArg₂ (fun a b => (wM.access rBot : View sig .tc _ _ _).write (Elt F) ((wM.access rTop : View sig .tc _ _ _).write (Elt F) f (k0_pay16 a) Finset.univ) (k0_pay17 b) Finset.univ) e0 e1

/-- Eight steps round the ring come back to the device itself. -/
theorem peer_mod : (c.val + 0) % 8 = (c.val + (7 + 1)) % 8 := by omega

/-- The fifth part copies the last two row blocks, stacks the expert weights and takes the first half of the product. -/
theorem part5 (w : BitVec 32) (Q : (Σ' (v153 : Vec F S512x512 .bf16), FVec F S256x512 .bf16) → sProp 𝕄) :
    iprop(held c cc0_scratch0 (scaled m c) ∗ turning m c 6 ∗ held c cc0_stg3_0 (ewIn m c) ∗ (∃ f, held c cc0_scratch2 f)
        ∗ ((held c cc0_scratch0 (scaled m c) ∗ held c cc0_scratch1 (turned m c) ∗ held c cc0_stg3_0 (ewIn m c) ∗ held c cc0_scratch2 (stacked m c))
            -∗ Q ⟨stacked m c, k0_pay18 (stacked m c) (turnedTop m c)⟩))
      ⊢ wp frame (wpE (defs₀ (F := F)) 𝒱₀ (c : Thread nD τ) none) Set.univ
          (k0_part5 xM (Memref.isWhole_whole _) rwM (Memref.isWhole_whole _) idxM (Memref.isWhole_whole _) ewM (Memref.isWhole_whole _)
            swM (Memref.isWhole_whole _) outM (Memref.isWhole_whole _) cxM (Memref.isWhole_whole _) zM (Memref.isWhole_whole _)
            wM (Memref.isWhole_whole _) yM (Memref.isWhole_whole _) kM (Memref.isWhole_whole _) cc0_scratch5 cc0_scratch6
            c (place c) w) Q := by
  rw [k0_part5_eq_skeleton]; unfold k0_part5_skel
  simp only [Prog.lift, Prog.bind_op, Prog.bind_ret, Prog.pure_eq_ret]
  iintro ⟨Hcx, Hz, Hew, ⟨%f, Hw⟩, Hk⟩
  iapply (step_turn m c 6 7 (by decide) rfl (k0_off1_eq c 7) rfl (fun v => shapeCast_self v _))
  isplitl [Hcx]; · iexact Hcx
  isplitl [Hz]; · iexact Hz
  iintro ⟨Hcx, Hz⟩
  iapply (step_turn m c 7 0 (by decide) (peer_mod c) (k0_off1_eq c 0) rfl (fun v => shapeCast_self v _))
  isplitl [Hcx]; · iexact Hcx
  isplitl [Hz]; · iexact Hz
  iintro ⟨Hcx, Hz⟩
  iapply (wp_load 𝒱₀ (c : Thread nD τ) none Set.univ (m := ewM) (Finset.subset_univ _)) $$ Hew; iintro Hew
  iapply (wp_load 𝒱₀ (c : Thread nD τ) none Set.univ (m := wM) (Finset.subset_univ _)) $$ Hw; iintro Hw
  iapply (wp_store 𝒱₀ (c : Thread nD τ) none Set.univ (m := wM) (r := rTop) (Mk := Finset.univ) (Finset.subset_univ _)) $$ Hw; iintro Hw
  iapply (wp_load 𝒱₀ (c : Thread nD τ) none Set.univ (m := ewM) (Finset.subset_univ _)) $$ Hew; iintro Hew
  iapply (wp_load 𝒱₀ (c : Thread nD τ) none Set.univ (m := wM) (Finset.subset_univ _)) $$ Hw; iintro Hw
  iapply (wp_store 𝒱₀ (c : Thread nD τ) none Set.univ (m := wM) (r := rBot) (Mk := Finset.univ) (Finset.subset_univ _)) $$ Hw; iintro Hw
  ihave Hw := (stacked_stored m c f) $$ Hw
  iapply (wp_load 𝒱₀ (c : Thread nD τ) none Set.univ (m := wM) (Finset.subset_univ _)) $$ Hw; iintro Hw
  unfold turning
  icases Hz with ⟨%g, %hg, Hz⟩
  iapply (wp_load 𝒱₀ (c : Thread nD τ) none Set.univ (m := zM) (Finset.subset_univ _)) $$ Hz; iintro Hz
  rw [turnedTo_all m c g hg, whole_w, top_read, wp_ret]; imodintro
  iapply Hk
  isplitl [Hcx]; · iexact Hcx
  isplitl [Hz]; · iexact Hz
  isplitl [Hew]; · iexact Hew
  iexact Hw

end Cert.Exchange

end
-- ==== Proof.BodySend.lean ====
/-
# The kernel's body from the products on: the copies issued, waited for, and added up

One theorem per printed part of the body, each for any continuation `Q`, taking only what the part touches.
-/
module

public import proofs.«01_k».proof.Proof.BodyFill

@[expose] public section

noncomputable section

namespace Cert.Exchange

open Cert.KernelIdeal Cert.KernelIdeal.Gen

open Idealize.ShloMosaic
open Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- The first copy goes to the first peer. -/
theorem dev8_eq : (⟨k0_dev8 c, k0_dev8_lt c⟩ : Dev nD) = peer c 0 := Fin.ext (k0_dev8_eq c)
/-- The second copy goes to the second peer. -/
theorem dev9_eq : (⟨k0_dev9 c, k0_dev9_lt c⟩ : Dev nD) = peer c 1 := Fin.ext (k0_dev9_eq c)
/-- The third copy goes to the third peer. -/
theorem dev10_eq : (⟨k0_dev10 c, k0_dev10_lt c⟩ : Dev nD) = peer c 2 := Fin.ext (k0_dev10_eq c)
/-- The fourth copy goes to the fourth peer. -/
theorem dev11_eq : (⟨k0_dev11 c, k0_dev11_lt c⟩ : Dev nD) = peer c 3 := Fin.ext (k0_dev11_eq c)
/-- The fifth copy goes to the fifth peer. -/
theorem dev12_eq : (⟨k0_dev12 c, k0_dev12_lt c⟩ : Dev nD) = peer c 4 := Fin.ext (k0_dev12_eq c)
/-- The sixth copy goes to the sixth peer. -/
theorem dev13_eq : (⟨k0_dev13 c, k0_dev13_lt c⟩ : Dev nD) = peer c 5 := Fin.ext (k0_dev13_eq c)
/-- The seventh copy goes to the seventh peer. -/
theorem dev14_eq : (⟨k0_dev14 c, k0_dev14_lt c⟩ : Dev nD) = peer c 6 := Fin.ext (k0_dev14_eq c)

/-- A load through a rectangle of the product buffer touches the rectangle's elements only. -/
theorem y_reads (r : Rect S512x512) : yM.view.setOn r.toLoadRect.set ⊆ r.set :=
  ((View.set_slice yM.view r).symm.trans (View.set_slice_whole cc0_scratch3 r)).subset
/-- A store over a rectangle of the products touches only that rectangle. -/
theorem y_writes (r : Rect S512x512) : (yM.access r : View sig .tc _ _ _).setOn Finset.univ ⊆ r.set :=
  (View.set_slice_whole cc0_scratch3 r).subset

/-! ## The copies -/

/-- The first half of the products, in row blocks, as the store leaves it. -/
theorem top_stored (f : Vec F S512x512 .bf16) :
    iprop(View.loc (c : Thread nD τ) (yM.access rTop) ↦[rTop.set]{fullShare}
        View.write (Elt F) (yM.access rTop) f (k0_pay19 (k0_pay18 (stacked m c) (turnedTop m c))) Finset.univ)
      ⊢ (iprop(blockPts c 0 (products m c) ∗ blockPts c 1 (products m c) ∗ blockPts c 2 (products m c) ∗ blockPts c 3 (products m c)) : sProp 𝕄) :=
  Entails.of_eq ((top_filled m c f).trans (top_blocks c _))
/-- And the second half. -/
theorem bot_stored (f : Vec F S512x512 .bf16) :
    iprop(View.loc (c : Thread nD τ) (yM.access rBot) ↦[rBot.set]{fullShare}
        View.write (Elt F) (yM.access rBot) f (k0_pay20 (stacked m c) (turnedBot m c)) Finset.univ)
      ⊢ (iprop(blockPts c 4 (products m c) ∗ blockPts c 5 (products m c) ∗ blockPts c 6 (products m c) ∗ ownPts c (products m c)) : sProp 𝕄) :=
  Entails.of_eq ((bot_filled m c f).trans (bot_blocks c _))

/-- The sixth part stores the first half of the products and starts the first two copies. -/
theorem part6 (Q : (Σ' (v161 : BitVec 32) (v172 : BitVec 32) (v183 : BitVec 32), BitVec 32) → sProp 𝕄) :
    iprop(records m K ∗ sending (F := F) c 0 ∗ (∃ f, yPts c Finset.univ f)
        ∗ (∀ w1 w2 w3 w4, (sending (F := F) c 2 ∗ blockPts c 2 (products m c) ∗ blockPts c 3 (products m c) ∗ ∃ f, yPts c rBot.set f)
            -∗ Q ⟨w1, w2, w3, w4⟩))
      ⊢ wp frame (wpE (defs₀ (F := F)) 𝒱₀ (c : Thread nD τ) none) Set.univ
          (k0_part6 xM (Memref.isWhole_whole _) rwM (Memref.isWhole_whole _) idxM (Memref.isWhole_whole _) ewM (Memref.isWhole_whole _)
            swM (Memref.isWhole_whole _) outM (Memref.isWhole_whole _) cxM (Memref.isWhole_whole _) zM (Memref.isWhole_whole _)
            wM (Memref.isWhole_whole _) yM (Memref.isWhole_whole _) kM (Memref.isWhole_whole _) cc0_scratch5 cc0_scratch6
            c (place c) (k0_pay18 (stacked m c) (turnedTop m c))) Q := by
  rw [k0_part6_eq_skeleton]; unfold k0_part6_skel
  simp only [Prog.lift, Prog.bind_op, Prog.bind_ret, Prog.pure_eq_ret]
  iintro ⟨#HR, HS, ⟨%f, Hy⟩, Hk⟩
  ihave Hy := (y_halves c f) $$ Hy
  icases Hy with ⟨Ht, Hb⟩
  iapply (wp_load 𝒱₀ (c : Thread nD τ) none Set.univ (m := yM) (y_reads rTop)) $$ Ht; iintro Ht
  iapply (wp_store 𝒱₀ (c : Thread nD τ) none Set.univ (m := yM) (r := rTop) (Mk := Finset.univ) (y_writes rTop)) $$ Ht; iintro Ht
  ihave Ht := (top_stored m c f) $$ Ht
  icases Ht with ⟨Hb0, Hb1, Hb2, Hb3⟩
  iapply (step_send m K c 0 (dev8_eq c) rfl rfl rfl rfl); isplitr; · iexact HR
  isplitl [HS]; · iexact HS
  isplitl [Hb0]; · iexact Hb0
  iintro HS
  iapply (step_send m K c 1 (dev9_eq c) rfl rfl rfl rfl); isplitr; · iexact HR
  isplitl [HS]; · iexact HS
  isplitl [Hb1]; · iexact Hb1
  iintro HS
  rw [wp_ret]; imodintro
  iapply Hk
  isplitl [HS]; · iexact HS
  isplitl [Hb2]; · iexact Hb2
  isplitl [Hb3]; · iexact Hb3
  iexists f; iexact Hb

/-- The seventh part starts two more copies, and stores the second half of the products. -/
theorem part7 (w : BitVec 32) (Q : (Σ' (v194 : BitVec 32), BitVec 32) → sProp 𝕄) :
    iprop(records m K ∗ sending (F := F) c 2 ∗ blockPts c 2 (products m c) ∗ blockPts c 3 (products m c) ∗ (∃ f, yPts c rBot.set f)
        ∗ held c cc0_scratch1 (turned m c)
        ∗ (∀ w1 w2, (sending (F := F) c 4 ∗ blockPts c 4 (products m c) ∗ blockPts c 5 (products m c) ∗ blockPts c 6 (products m c)
            ∗ ownPts c (products m c) ∗ held c cc0_scratch1 (turned m c)) -∗ Q ⟨w1, w2⟩))
      ⊢ wp frame (wpE (defs₀ (F := F)) 𝒱₀ (c : Thread nD τ) none) Set.univ
          (k0_part7 xM (Memref.isWhole_whole _) rwM (Memref.isWhole_whole _) idxM (Memref.isWhole_whole _) ewM (Memref.isWhole_whole _)
            swM (Memref.isWhole_whole _) outM (Memref.isWhole_whole _) cxM (Memref.isWhole_whole _) zM (Memref.isWhole_whole _)
            wM (Memref.isWhole_whole _) yM (Memref.isWhole_whole _) kM (Memref.isWhole_whole _) cc0_scratch5 cc0_scratch6
            c (place c) (stacked m c) w) Q := by
  rw [k0_part7_eq_skeleton]; unfold k0_part7_skel
  simp only [Prog.lift, Prog.bind_op, Prog.bind_ret, Prog.pure_eq_ret]
  iintro ⟨#HR, HS, Hb2, Hb3, ⟨%f, Hy⟩, Hz, Hk⟩
  iapply (step_send m K c 2 (dev10_eq c) rfl rfl rfl rfl); isplitr; · iexact HR
  isplitl [HS]; · iexact HS
  isplitl [Hb2]; · iexact Hb2
  iintro HS
  iapply (step_send m K c 3 (dev11_eq c) rfl rfl rfl rfl); isplitr; · iexact HR
  isplitl [HS]; · iexact HS
  isplitl [Hb3]; · iexact Hb3
  iintro HS
  iapply (wp_load 𝒱₀ (c : Thread nD τ) none Set.univ (m := zM) (Finset.subset_univ _)) $$ Hz; iintro Hz
  rw [bot_read]
  iapply (wp_load 𝒱₀ (c : Thread nD τ) none Set.univ (m := yM) (y_reads rBot)) $$ Hy; iintro Hy
  iapply (wp_store 𝒱₀ (c : Thread nD τ) none Set.univ (m := yM) (r := rBot) (Mk := Finset.univ) (y_writes rBot)) $$ Hy; iintro Hy
  ihave Hy := (bot_stored m c f) $$ Hy
  icases Hy with ⟨Hb4, Hb5, Hb6, Hown⟩
  rw [wp_ret]; imodintro
  iapply Hk
  isplitl [HS]; · iexact HS
  isplitl [Hb4]; · iexact Hb4
  isplitl [Hb5]; · iexact Hb5
  isplitl [Hb6]; · iexact Hb6
  isplitl [Hown]; · iexact Hown
  iexact Hz

/-- The eighth part starts the last three copies. -/
theorem part8 (Q : (Σ' (v222 : BitVec 32) (v233 : BitVec 32), BitVec 32) → sProp 𝕄) :
    iprop(records m K ∗ sending (F := F) c 4 ∗ blockPts c 4 (products m c) ∗ blockPts c 5 (products m c) ∗ blockPts c 6 (products m c)
        ∗ (∀ w1 w2 w3, sending (F := F) c 7 -∗ Q ⟨w1, w2, w3⟩))
      ⊢ wp frame (wpE (defs₀ (F := F)) 𝒱₀ (c : Thread nD τ) none) Set.univ
          (k0_part8 xM (Memref.isWhole_whole _) rwM (Memref.isWhole_whole _) idxM (Memref.isWhole_whole _) ewM (Memref.isWhole_whole _)
            swM (Memref.isWhole_whole _) outM (Memref.isWhole_whole _) cxM (Memref.isWhole_whole _) zM (Memref.isWhole_whole _)
            wM (Memref.isWhole_whole _) yM (Memref.isWhole_whole _) kM (Memref.isWhole_whole _) cc0_scratch5 cc0_scratch6
            c (place c)) Q := by
  rw [k0_part8_eq_skeleton]; unfold k0_part8_skel
  simp only [Prog.lift, Prog.bind_op, Prog.bind_ret, Prog.pure_eq_ret]
  iintro ⟨#HR, HS, Hb4, Hb5, Hb6, Hk⟩
  iapply (step_send m K c 4 (dev12_eq c) rfl rfl rfl rfl); isplitr; · iexact HR
  isplitl [HS]; · iexact HS
  isplitl [Hb4]; · iexact Hb4
  iintro HS
  iapply (step_send m K c 5 (dev13_eq c) rfl rfl rfl rfl); isplitr; · iexact HR
  isplitl [HS]; · iexact HS
  isplitl [Hb5]; · iexact Hb5
  iintro HS
  iapply (step_send m K c 6 (dev14_eq c) rfl rfl rfl rfl); isplitr; · iexact HR
  isplitl [HS]; · iexact HS
  isplitl [Hb6]; · iexact Hb6
  iintro HS
  rw [wp_ret]; imodintro
  iapply Hk
  iexact HS

/-! ## The waits and the sum -/

/-- The ninth part computes the device's own contribution, and waits for two departures and one arrival. -/
theorem part9 (w w' : BitVec 32) (Q : FVec F S64x512 .f32 → sProp 𝕄) :
    iprop(records m K ∗ settled (F := F) c ∗ departing m c 0 ∗ arriving m c 0
        ∗ held c cc0_stg0_0 (xIn m c) ∗ held c cc0_stg4_0 (swIn m c) ∗ ownPts c (products m c)
        ∗ ((settled (F := F) c ∗ departing m c 2 ∗ arriving m c 1
            ∗ held c cc0_stg0_0 (xIn m c) ∗ held c cc0_stg4_0 (swIn m c) ∗ ownPts c (products m c)) -∗ Q (ownPart m c)))
      ⊢ wp frame (wpE (defs₀ (F := F)) 𝒱₀ (c : Thread nD τ) none) Set.univ
          (k0_part9 xM (Memref.isWhole_whole _) rwM (Memref.isWhole_whole _) idxM (Memref.isWhole_whole _) ewM (Memref.isWhole_whole _)
            swM (Memref.isWhole_whole _) outM (Memref.isWhole_whole _) cxM (Memref.isWhole_whole _) zM (Memref.isWhole_whole _)
            wM (Memref.isWhole_whole _) yM (Memref.isWhole_whole _) kM (Memref.isWhole_whole _) cc0_scratch5 cc0_scratch6
            c w w') Q := by
  rw [k0_part9_eq_skeleton]; unfold k0_part9_skel
  simp only [Prog.lift, Prog.bind_op, Prog.bind_ret, Prog.pure_eq_ret]
  unfold ownPart
  iintro ⟨#HR, HO, HD, HA, Hx, Hsw, Hown, Hk⟩
  iapply (wp_load 𝒱₀ (c : Thread nD τ) none Set.univ (m := xM) (Finset.subset_univ _)) $$ Hx; iintro Hx
  iapply (wp_load 𝒱₀ (c : Thread nD τ) none Set.univ (m := swM) (Finset.subset_univ _)) $$ Hsw; iintro Hsw
  unfold ownPts
  iapply (wp_load 𝒱₀ (c : Thread nD τ) none Set.univ (m := yM) (y_reads rOwn)) $$ Hown; iintro Hown
  iapply (step_depart m K c 0 rfl rfl); isplitr; · iexact HR
  isplitl [HO]; · iexact HO
  isplitl [HD]; · iexact HD
  iintro ⟨HO, HD⟩
  iapply (step_arrive m K c 0 rfl rfl); isplitr; · iexact HR
  isplitl [HO]; · iexact HO
  isplitl [HA]; · iexact HA
  iintro ⟨HO, HA⟩
  iapply (step_depart m K c 1 rfl rfl); isplitr; · iexact HR
  isplitl [HO]; · iexact HO
  isplitl [HD]; · iexact HD
  iintro ⟨HO, HD⟩
  rw [rows_read m c _ _ (k0_off2_eq c), whole_sw, own_read, wp_ret]; imodintro
  iapply Hk
  isplitl [HO]; · iexact HO
  isplitl [HD]; · iexact HD
  isplitl [HA]; · iexact HA
  isplitl [Hx]; · iexact Hx
  isplitl [Hsw]; · iexact Hsw
  iexact Hown

/-- The tenth part waits until three copies have left and three have arrived. -/
theorem part10 (w w' : BitVec 32) (Q : PUnit → sProp 𝕄) :
    iprop(records m K ∗ settled (F := F) c ∗ departing m c 2 ∗ arriving m c 1
        ∗ ((settled (F := F) c ∗ departing m c 3 ∗ arriving m c 3) -∗ Q ⟨⟩))
      ⊢ wp frame (wpE (defs₀ (F := F)) 𝒱₀ (c : Thread nD τ) none) Set.univ
          (k0_part10 xM (Memref.isWhole_whole _) rwM (Memref.isWhole_whole _) idxM (Memref.isWhole_whole _) ewM (Memref.isWhole_whole _)
            swM (Memref.isWhole_whole _) outM (Memref.isWhole_whole _) cxM (Memref.isWhole_whole _) zM (Memref.isWhole_whole _)
            wM (Memref.isWhole_whole _) yM (Memref.isWhole_whole _) kM (Memref.isWhole_whole _) cc0_scratch5 cc0_scratch6
            w w') Q := by
  rw [k0_part10_eq_skeleton]; unfold k0_part10_skel
  simp only [Prog.lift, Prog.bind_op, Prog.bind_ret, Prog.pure_eq_ret]
  iintro ⟨#HR, HO, HD, HA, Hk⟩
  iapply (step_arrive m K c 1 rfl rfl); isplitr; · iexact HR
  isplitl [HO]; · iexact HO
  isplitl [HA]; · iexact HA
  iintro ⟨HO, HA⟩
  iapply (step_depart m K c 2 rfl rfl); isplitr; · iexact HR
  isplitl [HO]; · iexact HO
  isplitl [HD]; · iexact HD
  iintro ⟨HO, HD⟩
  iapply (step_arrive m K c 2 rfl rfl); isplitr; · iexact HR
  isplitl [HO]; · iexact HO
  isplitl [HA]; · iexact HA
  iintro ⟨HO, HA⟩
  rw [wp_ret]; imodintro
  iapply Hk
  isplitl [HO]; · iexact HO
  isplitl [HD]; · iexact HD
  iexact HA

/-- The eleventh part waits until five copies have left and five have arrived. -/
theorem part11 (w w' : BitVec 32) (Q : PUnit → sProp 𝕄) :
    iprop(records m K ∗ settled (F := F) c ∗ departing m c 3 ∗ arriving m c 3
        ∗ ((settled (F := F) c ∗ departing m c 5 ∗ arriving m c 5) -∗ Q ⟨⟩))
      ⊢ wp frame (wpE (defs₀ (F := F)) 𝒱₀ (c : Thread nD τ) none) Set.univ
          (k0_part11 xM (Memref.isWhole_whole _) rwM (Memref.isWhole_whole _) idxM (Memref.isWhole_whole _) ewM (Memref.isWhole_whole _)
            swM (Memref.isWhole_whole _) outM (Memref.isWhole_whole _) cxM (Memref.isWhole_whole _) zM (Memref.isWhole_whole _)
            wM (Memref.isWhole_whole _) yM (Memref.isWhole_whole _) kM (Memref.isWhole_whole _) cc0_scratch5 cc0_scratch6
            w w') Q := by
  rw [k0_part11_eq_skeleton]; unfold k0_part11_skel
  simp only [Prog.lift, Prog.bind_op, Prog.bind_ret, Prog.pure_eq_ret]
  iintro ⟨#HR, HO, HD, HA, Hk⟩
  iapply (step_depart m K c 3 rfl rfl); isplitr; · iexact HR
  isplitl [HO]; · iexact HO
  isplitl [HD]; · iexact HD
  iintro ⟨HO, HD⟩
  iapply (step_arrive m K c 3 rfl rfl); isplitr; · iexact HR
  isplitl [HO]; · iexact HO
  isplitl [HA]; · iexact HA
  iintro ⟨HO, HA⟩
  iapply (step_depart m K c 4 rfl rfl); isplitr; · iexact HR
  isplitl [HO]; · iexact HO
  isplitl [HD]; · iexact HD
  iintro ⟨HO, HD⟩
  iapply (step_arrive m K c 4 rfl rfl); isplitr; · iexact HR
  isplitl [HO]; · iexact HO
  isplitl [HA]; · iexact HA
  iintro ⟨HO, HA⟩
  rw [wp_ret]; imodintro
  iapply Hk
  isplitl [HO]; · iexact HO
  isplitl [HD]; · iexact HD
  iexact HA

/-- With every arrival waited for, the landing buffer is whole again. -/
theorem landed : (arriving m c 7 : sProp 𝕄)
    ⊢ iprop((bigSep Finset.univ fun j : Fin 7 => Rounds.atPos ER (recvCell c j) 1 ∅ 0) ∗ held c cc0_scratch4 (received m c)) := by
  unfold arriving held
  rw [staged_all, bigSep_sep', k_slots]

/-- The twelfth part waits for the remaining copies and returns the sum, which is the result. -/
theorem part12 (w w' : BitVec 32) (Q : FVec F S64x512 .f32 → sProp 𝕄) :
    iprop(records m K ∗ settled (F := F) c ∗ departing m c 5 ∗ arriving m c 5
        ∗ ((settled (F := F) c ∗ departing m c 7 ∗ (bigSep Finset.univ fun j : Fin 7 => Rounds.atPos ER (recvCell c j) 1 ∅ 0)
            ∗ held c cc0_scratch4 (received m c)) -∗ Q (result m c)))
      ⊢ wp frame (wpE (defs₀ (F := F)) 𝒱₀ (c : Thread nD τ) none) Set.univ
          (k0_part12 xM (Memref.isWhole_whole _) rwM (Memref.isWhole_whole _) idxM (Memref.isWhole_whole _) ewM (Memref.isWhole_whole _)
            swM (Memref.isWhole_whole _) outM (Memref.isWhole_whole _) cxM (Memref.isWhole_whole _) zM (Memref.isWhole_whole _)
            wM (Memref.isWhole_whole _) yM (Memref.isWhole_whole _) kM (Memref.isWhole_whole _) cc0_scratch5 cc0_scratch6
            w w' (ownPart m c)) Q := by
  rw [k0_part12_eq_skeleton]; unfold k0_part12_skel
  simp only [Prog.lift, Prog.bind_op, Prog.bind_ret, Prog.pure_eq_ret]
  unfold result
  iintro ⟨#HR, HO, HD, HA, Hk⟩
  iapply (step_depart m K c 5 rfl rfl); isplitr; · iexact HR
  isplitl [HO]; · iexact HO
  isplitl [HD]; · iexact HD
  iintro ⟨HO, HD⟩
  iapply (step_arrive m K c 5 rfl rfl); isplitr; · iexact HR
  isplitl [HO]; · iexact HO
  isplitl [HA]; · iexact HA
  iintro ⟨HO, HA⟩
  iapply (step_depart m K c 6 rfl rfl); isplitr; · iexact HR
  isplitl [HO]; · iexact HO
  isplitl [HD]; · iexact HD
  iintro ⟨HO, HD⟩
  iapply (step_arrive m K c 6 rfl rfl); isplitr; · iexact HR
  isplitl [HO]; · iexact HO
  isplitl [HA]; · iexact HA
  iintro ⟨HO, HA⟩
  ihave HA := (show arriving m c ((6 : Fin 7).val + 1) ⊢ _ from landed m c) $$ HA
  icases HA with ⟨HA, Hland⟩
  iapply (wp_load 𝒱₀ (c : Thread nD τ) none Set.univ (m := kM) (Finset.subset_univ _)) $$ Hland; iintro Hland
  rw [whole_k, wp_ret]; imodintro
  iapply Hk
  isplitl [HO]; · iexact HO
  isplitl [HD]; · iexact HD
  isplitl [HA]; · iexact HA
  iexact Hland

end Cert.Exchange

end
-- ==== Proof.Body.lean ====
/-
# The whole body on one device

The parts in order, from a device's share of the protocol's records to its result block and its cells closed.
-/
module

public import proofs.«01_k».proof.Proof.BodySend
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- A separating product over a persistent assertion kept beside it. -/
theorem bigSep_beside {I : Type} [DecidableEq I] {S : Finset I} {R : sProp (MT nD τ sig Unit (Elt F) ℕ UU ℕ)} [BI.Persistent R]
    {Φ Ψ : I → sProp (MT nD τ sig Unit (Elt F) ℕ UU ℕ)} (h : ∀ i, iprop(R ∗ Φ i) ⊢ Ψ i) : iprop(R ∗ bigSep S Φ) ⊢ bigSep S Ψ := by
  refine (sep_mono_left (bigSep_of_persistent S R)).trans ?_
  rw [← bigSep_sep']
  exact bigSep_mono fun i _ => h i

/-! ## What a device starts from and ends with -/

/-- A device's positions at its fifteen cells, and the tokens of the duties it pays. -/
def share : sProp 𝕄 :=
  iprop(atPos ER (barCell c) 0 ∅ 0
    ∗ (bigSep Finset.univ fun j : Fin 7 => atPos ER (sendCell c j) 0 ∅ 0)
    ∗ (bigSep Finset.univ fun j : Fin 7 => atPos ER (recvCell c j) 0 ∅ 0)
    ∗ (bigSep Finset.univ fun j : Fin 7 => dutyTok ER (barCell (peer c j)) 0 j.rev)
    ∗ (bigSep Finset.univ fun j : Fin 7 => iprop(dutyTok ER (sendCell c j) 0 0 ∗ dutyTok ER (recvCell (peer c j) j) 0 0)))

/-- The share with the records, the credits for what others send, and the levels. -/
def start : sProp 𝕄 :=
  iprop((∃ K, records m K ∗ share (F := F) c) ∗ cred (tallyAt (barCell c) () 7)
    ∗ (bigSep Finset.univ fun j : Fin 7 => cred (tallyAt (recvCell c j) () N)) ∗ levAts L lv)

/-- The five scratch buffers at some contents. -/
def scratches : sProp 𝕄 :=
  iprop((∃ f, held c cc0_scratch0 f) ∗ (∃ f, held c cc0_scratch1 f) ∗ (∃ f, held c cc0_scratch2 f) ∗ (∃ f, held c cc0_scratch3 f)
    ∗ ∃ f, held c cc0_scratch4 f)

/-- Every cell of the device closed at zero. -/
def closed : sProp 𝕄 :=
  iprop((bigSep Finset.univ fun j : Fin 7 => semVal (sendCell c j) 0) ∗ (bigSep Finset.univ fun j : Fin 7 => semVal (recvCell c j) 0)
    ∗ semVal (barCell c) 0)

/-- What a device holds before the body: its starting share and the scratch buffers. -/
def Φ₀ : sProp 𝕄 := iprop(start m c ∗ scratches (F := F) c)
/-- What a device holds after the body: the scratch buffers and every cell closed at zero. -/
def Φ₁ : sProp 𝕄 := iprop(scratches (F := F) c ∗ closed (F := F) c)

/-- The pipeline's data: the arguments' windows keep their contents, the result's ends at `result`. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => rwIn m c
    | ⟨2, _⟩ => idxIn m c
    | ⟨3, _⟩ => ewIn m c
    | ⟨4, _⟩ => swIn m c
    | ⟨5, _⟩ => result m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-! ## Regrouping -/

/-- The landing buffer, whole at some contents, as the slots the signals hand over. -/
theorem slots_out (f : Vec F S7x64x512 .bf16) :
    (held c cc0_scratch4 f : sProp 𝕄) ⊢ bigSep Finset.univ fun j : Fin 7 => iprop(∃ f, slotPts (F := F) c j.rev f) := by
  unfold held
  rw [k_slots, bigSep_univ_equiv Fin.revPerm (fun j : Fin 7 => (slotPts c j f : sProp 𝕄))]
  exact bigSep_mono fun j _ => (show (slotPts (F := F) c j.rev f : sProp 𝕄) ⊢ iprop(∃ f, slotPts (F := F) c j.rev f) from by iintro H; iexists f; iexact H)

/-- The debts, the barrier tokens and the landing buffer make the state before the first signal. -/
theorem signalling_intro (W : Waits sig Unit) :
    iprop(owes (c : Thread nD τ) (O₀ c) W ∗ (bigSep Finset.univ fun j : Fin 7 => dutyTok ER (barCell (peer c j)) 0 j.rev) ∗ ∃ f, held c cc0_scratch4 f)
      ⊢ (signalling (F := F) c 0 : sProp 𝕄) := by
  unfold signalling
  rw [staged_zero, bigSep_sep']
  iintro ⟨HO, HT, %f, Hk⟩
  isplitl [HO]; · iexists W; iexact HO
  isplitl [HT]; · iexact HT
  iapply (slots_out c f); iexact Hk

/-- After the seventh copy nothing is owed, and a credit is held at each send cell. -/
theorem sending_done : (sending (F := F) c 7 : sProp 𝕄)
    ⊢ iprop(settled (F := F) c ∗ bigSep Finset.univ fun j : Fin 7 => cred (tallyAt (sendCell c j) () N)) := by
  unfold sending settled
  rw [staged_all, owedRecv_end]

/-- The positions and the credits at the send cells make the state before the first send wait. -/
theorem departing_intro :
    iprop((bigSep Finset.univ fun j : Fin 7 => atPos ER (sendCell c j) 0 ∅ 0) ∗ bigSep Finset.univ fun j : Fin 7 => cred (tallyAt (sendCell c j) () N))
      ⊢ (departing m c 0 : sProp 𝕄) := by
  unfold departing
  rw [staged_zero, bigSep_sep']
/-- The positions and the credits at the receive cells make the state before the first receive wait. -/
theorem arriving_intro :
    iprop((bigSep Finset.univ fun j : Fin 7 => atPos ER (recvCell c j) 0 ∅ 0) ∗ bigSep Finset.univ fun j : Fin 7 => cred (tallyAt (recvCell c j) () N))
      ⊢ (arriving m c 0 : sProp 𝕄) := by
  unfold arriving
  rw [staged_zero, bigSep_sep']
/-- After the seventh send wait every send cell is past its round and every block is back. -/
theorem departing_done : (departing m c 7 : sProp 𝕄)
    ⊢ iprop((bigSep Finset.univ fun j : Fin 7 => atPos ER (sendCell c j) 1 ∅ 0) ∗ bigSep Finset.univ fun j : Fin 7 => blockPts c j (products m c)) := by
  unfold departing
  rw [staged_all, bigSep_sep']

/-- A cell past its round closes at zero. -/
theorem close_cell (ck : Dev nD × Cell) :
    iprop(records m K ∗ atPos ER (kcell ck) 1 ∅ 0) ⊢ iprop(|={Set.univ}=> (semVal (kcell ck) 0 : sProp 𝕄)) := by
  iintro ⟨#HR, Hat⟩
  iapply (Rounds.cell_close ER (sched m) (Set.mem_univ (K ck)) (fun h => h) (R := 0 + 1) (duties_later m (kcell ck)))
  isplitr; · iapply (records_inv m K ck); iexact HR
  iexact Hat

/-- Every cell of the device, past its round, closes at zero. -/
theorem close_all :
    iprop(records m K ∗ (bigSep Finset.univ fun j : Fin 7 => atPos ER (sendCell c j) 1 ∅ 0) ∗ (bigSep Finset.univ fun j : Fin 7 => atPos ER (recvCell c j) 1 ∅ 0)
        ∗ atPos ER (barCell c) 1 ∅ 0)
      ⊢ iprop(|={Set.univ}=> closed (F := F) c) := by
  unfold closed
  iintro ⟨#HR, HS, HV, HB⟩
  ihave HS := ((bigSep_beside (R := records m K) fun j => close_cell m K (c, .inr (.inl j))).trans (bigSep_fupd _ _)) $$ [HS]
  · isplitr; · iexact HR
    iexact HS
  ihave HV := ((bigSep_beside (R := records m K) fun j => close_cell m K (c, .inr (.inr j))).trans (bigSep_fupd _ _)) $$ [HV]
  · isplitr; · iexact HR
    iexact HV
  ihave HB := (close_cell m K (c, .inl ())) $$ [HB]
  · isplitr; · iexact HR
    iexact HB
  imod HS with HS
  imod HV with HV
  imod HB with HB
  imodintro
  isplitl [HS]; · iexact HS
  isplitl [HV]; · iexact HV
  iexact HB

/-- A store over the whole result leaves the stored value. -/
theorem out_stored (f w : Vec F S64x512 .f32) :
    (outM.access (Rect.unit (s := S64x512) ![0, 0] S64x512.size inb_S64x512_S64x512_0_0) : View sig .tc _ _ _).write (Elt F) f w Finset.univ = w :=
  Memref.write_access_unit_zero_univ (Elt F) cc0_stg5_0 hz2 _ f w

/-! ## The body -/

/-- What the body starts from. -/
def bodyPre : sProp 𝕄 :=
  iprop((records m K ∗ share (F := F) c) ∗ (cred (tallyAt (barCell c) () 7)
      ∗ (bigSep Finset.univ fun j : Fin 7 => cred (tallyAt (recvCell c j) () N)) ∗ levAts L lv) ∗ scratches (F := F) c
    ∗ (∃ W, owes (c : Thread nD τ) (O₀ c) W)
    ∗ held c cc0_stg0_0 (xIn m c) ∗ held c cc0_stg1_0 (rwIn m c) ∗ held c cc0_stg2_0 (idxIn m c) ∗ held c cc0_stg3_0 (ewIn m c)
    ∗ held c cc0_stg4_0 (swIn m c) ∗ ∃ f, held c cc0_stg5_0 f)

/-- What the body ends with. -/
def bodyPost : sProp 𝕄 :=
  iprop(Φ₁ (F := F) c ∗ settled (F := F) c
    ∗ held c cc0_stg0_0 (xIn m c) ∗ held c cc0_stg1_0 (rwIn m c) ∗ held c cc0_stg2_0 (idxIn m c) ∗ held c cc0_stg3_0 (ewIn m c)
    ∗ held c cc0_stg4_0 (swIn m c) ∗ held c cc0_stg5_0 (result m c))

/-- The body, its parts in program order. -/
theorem sound_body (Kt : PUnit → sProp 𝕄) :
    iprop(bodyPre m K c ∗ (bodyPost m c -∗ Kt ⟨⟩))
      ⊢ wp frame (wpE (defs₀ (F := F)) 𝒱₀ (c : Thread nD τ) none) Set.univ
          (cc0_body xM (Memref.isWhole_whole _) rwM (Memref.isWhole_whole _) idxM (Memref.isWhole_whole _) ewM (Memref.isWhole_whole _)
            swM (Memref.isWhole_whole _) outM (Memref.isWhole_whole _) cxM (Memref.isWhole_whole _) zM (Memref.isWhole_whole _)
            wM (Memref.isWhole_whole _) yM (Memref.isWhole_whole _) kM (Memref.isWhole_whole _) cc0_scratch5 cc0_scratch6) Kt := by
  simp only [cc0_body_eq_skeleton]; unfold cc0_body_skel
  unfold bodyPre share scratches
  iintro ⟨⟨⟨#HR, HaB, HaS, HaV, HtB, HtC⟩, ⟨HcB, HcV, #Hlev⟩, ⟨⟨%f0, H0⟩, ⟨%f1, H1⟩, ⟨%f2, H2⟩, ⟨%f3, H3⟩, ⟨%f4, H4⟩⟩, ⟨%W, HO⟩,
    Hx, Hrw, Hix, Hew, Hsw, ⟨%fo, Hout⟩⟩, Hk⟩
  ihave HS := (signalling_intro c W) $$ [HO HtB H4]
  · isplitl [HO]; · iexact HO
    isplitl [HtB]; · iexact HtB
    iexists f4; iexact H4
  rw [wp_bind]
  iapply (part1 m K c); isplitr; · iexact HR
  isplitl [HS]; · iexact HS
  iintro %w1 %w2 HS
  rw [wp_bind]
  iapply (part2 m K c); isplitr; · iexact HR
  isplitr; · iexact Hlev
  isplitl [HS]; · iexact HS
  isplitl [HcB HaB]; · isplitl [HcB]; · iexact HcB
                       iexact HaB
  isplitl [HtC]; · iexact HtC
  isplitl [Hx]; · iexact Hx
  isplitl [Hrw]; · iexact Hrw
  isplitl [Hix]; · iexact Hix
  iintro ⟨HS, HaB, Hx, Hrw, Hix⟩
  rw [wp_bind]
  iapply (part3 m c)
  isplitl [H0]; · iexists f0; iexact H0
  isplitl [H1]; · unfold turning; iexists f1; isplitr
                  · ipureintro; intro i hi; exact absurd hi (by omega)
                  · iexact H1
  iintro %w3 ⟨H0, H1⟩
  rw [wp_bind]
  iapply (part4 m c)
  isplitl [H0]; · iexact H0
  isplitl [H1]; · iexact H1
  iintro %w4 ⟨H0, H1⟩
  rw [wp_bind]
  iapply (part5 m c)
  isplitl [H0]; · iexact H0
  isplitl [H1]; · iexact H1
  isplitl [Hew]; · iexact Hew
  isplitl [H2]; · iexists f2; iexact H2
  iintro ⟨H0, H1, Hew, H2⟩
  rw [wp_bind]
  iapply (part6 m K c); isplitr; · iexact HR
  isplitl [HS]; · iexact HS
  isplitl [H3]; · iexists f3; iexact H3
  iintro %w5 %w6 %w7 %w8 ⟨HS, Hb2, Hb3, Hy⟩
  rw [wp_bind]
  iapply (part7 m K c); isplitr; · iexact HR
  isplitl [HS]; · iexact HS
  isplitl [Hb2]; · iexact Hb2
  isplitl [Hb3]; · iexact Hb3
  isplitl [Hy]; · iexact Hy
  isplitl [H1]; · iexact H1
  iintro %w9 %w10 ⟨HS, Hb4, Hb5, Hb6, Hown, H1⟩
  rw [wp_bind]
  iapply (part8 m K c); isplitr; · iexact HR
  isplitl [HS]; · iexact HS
  isplitl [Hb4]; · iexact Hb4
  isplitl [Hb5]; · iexact Hb5
  isplitl [Hb6]; · iexact Hb6
  iintro %w11 %w12 %w13 HS
  ihave HS := (sending_done c) $$ HS
  icases HS with ⟨HO, HcS⟩
  ihave HD := (departing_intro m c) $$ [HaS HcS]
  · isplitl [HaS]; · iexact HaS
    iexact HcS
  ihave HA := (arriving_intro m c) $$ [HaV HcV]
  · isplitl [HaV]; · iexact HaV
    iexact HcV
  rw [wp_bind]
  iapply (part9 m K c); isplitr; · iexact HR
  isplitl [HO]; · iexact HO
  isplitl [HD]; · iexact HD
  isplitl [HA]; · iexact HA
  isplitl [Hx]; · iexact Hx
  isplitl [Hsw]; · iexact Hsw
  isplitl [Hown]; · iexact Hown
  iintro ⟨HO, HD, HA, Hx, Hsw, Hown⟩
  rw [wp_bind]
  iapply (part10 m K c); isplitr; · iexact HR
  isplitl [HO]; · iexact HO
  isplitl [HD]; · iexact HD
  isplitl [HA]; · iexact HA
  iintro ⟨HO, HD, HA⟩
  rw [wp_bind]
  iapply (part11 m K c); isplitr; · iexact HR
  isplitl [HO]; · iexact HO
  isplitl [HD]; · iexact HD
  isplitl [HA]; · iexact HA
  iintro ⟨HO, HD, HA⟩
  rw [wp_bind]
  iapply (part12 m K c); isplitr; · iexact HR
  isplitl [HO]; · iexact HO
  isplitl [HD]; · iexact HD
  isplitl [HA]; · iexact HA
  iintro ⟨HO, HD, HaV, H4⟩
  ihave HD := (departing_done m c) $$ HD
  icases HD with ⟨HaS, Hblk⟩
  ihave H3 := (y_blocks c (products m c)) $$ [Hblk Hown]
  · isplitl [Hblk]; · iexact Hblk
    iexact Hown
  imod (close_all m K c) $$ [HaS HaV HaB] with Hz
  · isplitr; · iexact HR
    isplitl [HaS]; · iexact HaS
    isplitl [HaV]; · iexact HaV
    iexact HaB
  simp only [Prog.lift, Prog.bind_op, Prog.bind_ret, Prog.pure_eq_ret]
  iapply (wp_load 𝒱₀ (c : Thread nD τ) none Set.univ (m := outM) (Finset.subset_univ _)) $$ Hout; iintro Hout
  iapply (wp_store 𝒱₀ (c : Thread nD τ) none Set.univ (m := outM) (r := Rect.unit (s := S64x512) ![0, 0] S64x512.size inb_S64x512_S64x512_0_0) (Mk := Finset.univ) (Finset.subset_univ _)) $$ Hout; iintro Hout
  rw [out_stored, wp_ret]; imodintro
  iapply Hk
  unfold bodyPost Φ₁ scratches
  isplitl [H0 H1 H2 H3 H4 Hz]
  · isplitr [Hz]
    · isplitl [H0]; · iexists _; iexact H0
      isplitl [H1]; · iexists _; iexact H1
      isplitl [H2]; · iexists _; iexact H2
      isplitl [H3]; · iexists _; iexact H3
      iexists _; iexact H4
    iexact Hz
  isplitl [HO]; · iexact HO
  isplitl [Hx]; · iexact Hx
  isplitl [Hrw]; · iexact Hrw
  isplitl [Hix]; · iexact Hix
  isplitl [Hew]; · iexact Hew
  isplitl [Hsw]; · iexact Hsw
  iexact Hout

/-! ## The body as the pipeline asks for it -/

/-- An input window's staging buffer holds its fetched block. -/
theorem before_x (t : Fin cfg0.N) (d) : (dats m 0 c).before (0 : Fin 6) t d = xIn m c := by
  unfold Dat.before; rw [if_pos (fetch0_0 t), fin_N0 t]; rfl
/-- The router weights' staging buffer holds the fetched weights. -/
theorem before_rw (t : Fin cfg0.N) (d) : (dats m 0 c).before (1 : Fin 6) t d = rwIn m c := by
  unfold Dat.before; rw [if_pos (fetch0_1 t), fin_N0 t]; rfl
/-- The indices' staging buffer holds the fetched indices. -/
theorem before_idx (t : Fin cfg0.N) (d) : (dats m 0 c).before (2 : Fin 6) t d = idxIn m c := by
  unfold Dat.before; rw [if_pos (fetch0_2 t), fin_N0 t]; rfl
/-- The expert weights' staging buffer holds the fetched weights. -/
theorem before_ew (t : Fin cfg0.N) (d) : (dats m 0 c).before (3 : Fin 6) t d = ewIn m c := by
  unfold Dat.before; rw [if_pos (fetch0_3 t), fin_N0 t]; rfl
/-- The shared weights' staging buffer holds the fetched weights. -/
theorem before_sw (t : Fin cfg0.N) (d) : (dats m 0 c).before (4 : Fin 6) t d = swIn m c := by
  unfold Dat.before; rw [if_pos (fetch0_4 t), fin_N0 t]; rfl

/-- A staging buffer at some contents equal to `X`. -/
abbrev fetchedAt (b : Ref sig .tc) (X : Buf (Elt F) ((c : Thread nD τ).loc b)) : sProp 𝕄 :=
  iprop(∃ f, ⌜f = X⌝ ∗ held c b f)

/-- A buffer held at `X` is one at some contents equal to `X`. -/
theorem held_fetchedAt (b : Ref sig .tc) (X : Buf (Elt F) ((c : Thread nD τ).loc b)) :
    (held c b X : sProp 𝕄) ⊢ fetchedAt c b X := by
  iintro H; iexists X; isplitr; · ipureintro; rfl
  iexact H

/-- A buffer at contents known to be `X` is held at `X`. -/
theorem before_held (b : Ref sig .tc) (X : Buf (Elt F) ((c : Thread nD τ).loc b)) {D : Type}
    (g : D → Buf (Elt F) ((c : Thread nD τ).loc b)) (h : ∀ d, g d = X) :
    (iprop(∃ d, fetchedAt c b (g d)) : sProp 𝕄) ⊢ held c b X := by
  iintro ⟨%d, %f, %hf, H⟩
  rw [h d] at hf; subst hf; iexact H

set_option maxRecDepth 4000 in
/-- What the pipeline hands the body. -/
def obligationPre : sProp 𝕄 :=
  iprop(Φ₀ m c ∗ (dats m 0 c).owesAt () t0_0.castSucc
    ∗ (∃ d, fetchedAt c cc0_stg0_0 ((dats m 0 c).before (0 : Fin 6) t0_0 d))
    ∗ (∃ d, fetchedAt c cc0_stg1_0 ((dats m 0 c).before (1 : Fin 6) t0_0 d))
    ∗ (∃ d, fetchedAt c cc0_stg2_0 ((dats m 0 c).before (2 : Fin 6) t0_0 d))
    ∗ (∃ d, fetchedAt c cc0_stg3_0 ((dats m 0 c).before (3 : Fin 6) t0_0 d))
    ∗ (∃ d, fetchedAt c cc0_stg4_0 ((dats m 0 c).before (4 : Fin 6) t0_0 d))
    ∗ (∃ d, fetchedAt c cc0_stg5_0 ((dats m 0 c).before (5 : Fin 6) t0_0 d)))

set_option maxRecDepth 4000 in
/-- What the pipeline asks back from the body. -/
def obligationPost : sProp 𝕄 :=
  iprop(Φ₁ (F := F) c ∗ (dats m 0 c).owesAt () t0_0.succ
    ∗ fetchedAt c cc0_stg0_0 (xIn m c) ∗ fetchedAt c cc0_stg1_0 (rwIn m c) ∗ fetchedAt c cc0_stg2_0 (idxIn m c)
    ∗ fetchedAt c cc0_stg3_0 (ewIn m c) ∗ fetchedAt c cc0_stg4_0 (swIn m c) ∗ fetchedAt c cc0_stg5_0 (result m c))

/-- The body's end gives what the pipeline asks back. -/
theorem obligation_post : (bodyPost m c : sProp 𝕄) ⊢ obligationPost m c := by
  unfold bodyPost obligationPost settled Dat.owesAt Pipeline.owesWithin
  rw [show (dats m 0 c).owed t0_0.succ = 0 from rfl]
  iintro ⟨HΦ, ⟨%W, HO⟩, H0, H1, H2, H3, H4, H5⟩
  isplitl [HΦ]; · iexact HΦ
  isplitl [HO]
  · iexists W; isplitr; · ipureintro; exact fun _ _ => Or.inl trivial
    iexact HO
  isplitl [H0]; · iapply (held_fetchedAt c cc0_stg0_0 (xIn m c)); iexact H0
  isplitl [H1]; · iapply (held_fetchedAt c cc0_stg1_0 (rwIn m c)); iexact H1
  isplitl [H2]; · iapply (held_fetchedAt c cc0_stg2_0 (idxIn m c)); iexact H2
  isplitl [H3]; · iapply (held_fetchedAt c cc0_stg3_0 (ewIn m c)); iexact H3
  isplitl [H4]; · iapply (held_fetchedAt c cc0_stg4_0 (swIn m c)); iexact H4
  iapply (held_fetchedAt c cc0_stg5_0 (result m c)); iexact H5

/-- What the pipeline hands over gives the body's start. -/
theorem obligation_pre (Q : sProp (MT nD τ sig Unit (Elt F) ℕ UU ℕ)) (h : ∀ K, bodyPre m K c ⊢ Q) : obligationPre m c ⊢ Q := by
  unfold obligationPre Φ₀ start Dat.owesAt Pipeline.owesWithin
  rw [show (dats m 0 c).owed t0_0.castSucc = O₀ c from rfl]
  iintro ⟨⟨⟨⟨%K, Hg⟩, Hrest⟩, Hscr⟩, ⟨%W, -, HO⟩, H0, H1, H2, H3, H4, ⟨%d, %f, -, H5⟩⟩
  iapply (h K)
  unfold bodyPre
  isplitl [Hg]; · iexact Hg
  isplitl [Hrest]; · iexact Hrest
  isplitl [Hscr]; · iexact Hscr
  isplitl [HO]; · iexists W; iexact HO
  isplitl [H0]; · iapply (before_held c cc0_stg0_0 (xIn m c) _ (before_x m c t0_0)); iexact H0
  isplitl [H1]; · iapply (before_held c cc0_stg1_0 (rwIn m c) _ (before_rw m c t0_0)); iexact H1
  isplitl [H2]; · iapply (before_held c cc0_stg2_0 (idxIn m c) _ (before_idx m c t0_0)); iexact H2
  isplitl [H3]; · iapply (before_held c cc0_stg3_0 (ewIn m c) _ (before_ew m c t0_0)); iexact H3
  isplitl [H4]; · iapply (before_held c cc0_stg4_0 (swIn m c) _ (before_sw m c t0_0)); iexact H4
  iexists f; iexact H5

set_option maxRecDepth 4000 in
/-- The body meets the pipeline's obligation on every device. -/
theorem bodyObligation : BodyObligation (dats (F := F) m 0 c) (defs₀ (F := F)) 𝒱₀ () Set.univ := fun t => by
  rw [fin_N0 t]
  rw [bigSep_W0, bigSep_W0]
  simp only [owns_whole_eq]
  show obligationPre m c ⊢ wp frame (wpE (defs₀ (F := F)) 𝒱₀ (c : Thread nD τ) none) Set.univ
          (cc0_body xM (Memref.isWhole_whole _) rwM (Memref.isWhole_whole _) idxM (Memref.isWhole_whole _) ewM (Memref.isWhole_whole _)
            swM (Memref.isWhole_whole _) outM (Memref.isWhole_whole _) cxM (Memref.isWhole_whole _) zM (Memref.isWhole_whole _)
            wM (Memref.isWhole_whole _) yM (Memref.isWhole_whole _) kM (Memref.isWhole_whole _) cc0_scratch5 cc0_scratch6) (fun _ => obligationPost m c)
  refine obligation_pre m c _ fun K => ?_
  iintro H
  iapply (sound_body m K c fun _ => obligationPost m c)
  isplitl [H]; · iexact H
  iintro H; iapply (obligation_post m c); iexact H

end Cert.Exchange

end
-- ==== Proof.Launch.lean ====
/-
# The launch

The exchange's cells and duty tokens are minted once for the mesh and dealt: every device keeps its own positions and
gets the tokens of the payments it makes, which are at other devices' cells. The credits a device starts with are what
the others owe it. From this, and the body on one device, the whole program runs and ends with each device's result
block, its arguments unchanged, and every semaphore at zero.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- A conjunction over a disjoint sum splits into its two sides. -/
theorem over_sum {A B : Type} [Fintype A] [Fintype B] (Φ : A ⊕ B → sProp (MT nD τ sig Unit (Elt F) ℕ UU ℕ)) :
    bigSep Finset.univ Φ = iprop(bigSep Finset.univ (fun a => Φ (.inl a)) ∗ bigSep Finset.univ fun b => Φ (.inr b)) := BI.bigSep_univ_sum Φ

/-- The facts the pipeline asks of the kernel's own semaphores hold. -/
theorem own_sems : Pipeline.OwnSemFacts cfg0.spec osem := by decide

/-- Every window is held in full. -/
theorem window_share (c : Dev nD) (w : Fin cfg0.W) : (dats m 0 c).share w = fullShare := by unfold Dat.share; split <;> rfl

/-- Different cells of different devices are different semaphores. -/
theorem kcell_injective : Function.Injective (kcell : Dev nD × Cell → GSem nD τ sig) := by
  rintro ⟨c, k⟩ ⟨d, l⟩ h
  obtain rfl : c = d := congrArg (fun g : GSem nD τ sig => g.1.1) h
  obtain rfl : k = l := csem_injective (congrArg Prod.snd h)
  rfl

/-- Every cell of every device. -/
def allCells : Finset (GSem nD τ sig) := Finset.univ.map ⟨kcell, kcell_injective⟩

/-- The duties of a device's own cells: seven at the barrier, one at each other cell. -/
abbrev Duty : Type := Fin 7 ⊕ (Fin 7 ⊕ Fin 7)
/-- The cell and the index of a duty. -/
abbrev dutyOf : Duty → Cell × Fin 7
  | .inl k => (.inl (), k)
  | .inr k => (.inr k, 0)
/-- The token of a duty on a device. -/
abbrev tokOf (cd : Dev nD × Duty) : GSem nD τ sig × ℕ × Fin 7 := (kcell (cd.1, (dutyOf cd.2).1), 0, (dutyOf cd.2).2)

/-- Different duties have different cells or indices. -/
theorem dutyOf_injective : Function.Injective dutyOf := by
  rintro (a | a) (b | b) h
  · exact congrArg Sum.inl (congrArg Prod.snd h)
  · exact absurd (congrArg Prod.fst h) (by simp)
  · exact absurd (congrArg Prod.fst h) (by simp)
  · exact congrArg Sum.inr (Sum.inr.inj (congrArg Prod.fst h))
/-- Different duties have different tokens. -/
theorem tokOf_injective : Function.Injective tokOf := by
  rintro ⟨c, a⟩ ⟨d, b⟩ h
  have h1 := kcell_injective (congrArg (fun x : GSem nD τ sig × ℕ × Fin 7 => x.1) h)
  have h2 : (dutyOf a).2 = (dutyOf b).2 := congrArg (fun x : GSem nD τ sig × ℕ × Fin 7 => x.2.2) h
  obtain rfl : c = d := congrArg Prod.fst h1
  obtain rfl : a = b := dutyOf_injective (Prod.ext (congrArg Prod.snd h1) h2)
  rfl

/-- The tokens of every duty on every device. -/
def allToks : Finset (GSem nD τ sig × ℕ × Fin 7) := Finset.univ.map ⟨tokOf, tokOf_injective⟩

/-- The launch element: the windows' and the exchange's. -/
def u₀ : UU := (initOf (Pipeline.cells cfgs cellOf_inj) (Pipeline.launchToks cfgs cellOf_inj), initOf allCells allToks)

/-- The tokens of a device's own cells. -/
def ownToks (c : Dev nD) : sProp 𝕄 :=
  iprop((bigSep Finset.univ fun k : Fin 7 => dutyTok ER (barCell c) 0 k)
    ∗ (bigSep Finset.univ fun j : Fin 7 => dutyTok ER (sendCell c j) 0 0)
    ∗ (bigSep Finset.univ fun j : Fin 7 => dutyTok ER (recvCell c j) 0 0))

/-- What the launch element gives a device. -/
def minted (c : Dev nD) : sProp 𝕄 :=
  iprop((bigSep Finset.univ fun k : Cell => roundState ER (sched m) (kcell (c, k)) 0)
    ∗ (bigSep Finset.univ fun k : Cell => iprop(atPos ER (kcell (c, k)) 0 ∅ 0 ∗ reached ER (kcell (c, k)) 0)) ∗ ownToks c)

/-- What the device has once the cells are shared and the tokens dealt. -/
def dealt (c : Dev nD) : sProp 𝕄 := iprop(∃ K, records m K ∗ share (F := F) c)

/-- A conjunction over all cells goes device by device. -/
theorem over_cells (Φ : GSem nD τ sig → sProp (MT nD τ sig Unit (Elt F) ℕ UU ℕ)) :
    bigSep allCells Φ = bigSep Finset.univ fun c : Dev nD => bigSep Finset.univ fun k : Cell => Φ (kcell (c, k)) := by
  unfold allCells; rw [bigSep_map, bigSep_univ_prod]; rfl
/-- The tokens of all duties go device by device. -/
theorem over_toks : bigSep allToks (fun x => (dutyTok ER x.1 x.2.1 x.2.2 : sProp 𝕄)) = bigSep Finset.univ fun c : Dev nD => ownToks c := by
  unfold allToks; rw [bigSep_map, bigSep_univ_prod]
  exact bigSep_congr fun c _ => by unfold ownToks; rw [over_sum, over_sum]; rfl

/-- The initial ghost state gives each device its cells' records and tokens. -/
theorem mint : BI.own (ER (initOf allCells allToks)) ⊢ (|==> bigSep Finset.univ (minted m) : sProp 𝕄) := by
  iintro HX
  imod (Rounds.fund ER (sched m) allCells allToks) $$ HX with ⟨Hst, Hr, Hat, Htok⟩
  imodintro
  ihave Hst := (Entails.of_eq (over_cells fun g => roundState ER (sched m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold minted; simp only [bigSep_sep']
  isplitl [Hst]; · iexact Hst
  isplitl [Hat Hr]
  · isplitl [Hat]; · iexact Hat
    iexact Hr
  iexact Htok

/-! ## The cells opened -/

/-- The declared semaphores at zero are the send and receive cells at zero. -/
theorem own_zero (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ bigSep Finset.univ fun j : Fin 7 => semVal (recvCell c j) 0) := by
  unfold Pipeline.ownSems0; rw [over_sum]
/-- The barrier semaphore at zero is the barrier cell at zero. -/
theorem unscoped_zero (c : Dev nD) : (unscopedSems0 c : sProp 𝕄) = semVal (barCell c) 0 := by
  unfold unscopedSems0; rw [bigSep_eq_bigSepL_of_eq [SemLoc.reg barS] (by decide) (by decide)]; rfl
/-- A conjunction over a single index is its one member. -/
theorem over_unit (Φ : Unit → sProp (MT nD τ sig Unit (Elt F) ℕ UU ℕ)) : bigSep Finset.univ Φ = Φ () :=
  bigSep_univ_eq_bigSepL [()] (by decide) (by decide) Φ

/-- All semaphores of a device at zero are its cells at zero. -/
theorem all_zero (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [own_zero, unscoped_zero, over_sum, over_unit, over_sum]
  iintro ⟨H, HB⟩
  isplitl [HB]; · iexact HB
  iexact H

/-- Cells at zero with their round states become shared invariants. -/
theorem share_cells (c : Dev nD) :
    iprop((bigSep Finset.univ fun k : Cell => semVal (kcell (c, k)) 0) ∗ bigSep Finset.univ fun k : Cell => roundState ER (sched m) (kcell (c, k)) 0)
      ⊢ (|={Set.univ}=> bigSep Finset.univ fun k : Cell => iprop(∃ κ : ℕ, cellInv ER (sched m) κ (kcell (c, k))) : sProp 𝕄) := by
  rw [← bigSep_sep']
  exact (bigSep_mono fun k _ => (Rounds.body_intro ER (sched m) (kcell (c, k))).trans inv_alloc).trans (bigSep_fupd _ _)

/-- A device's semaphores and minted state become its invariants, positions and tokens. -/
theorem open_cells (c : Dev nD) :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun k : Cell => iprop(∃ κ : ℕ, cellInv ER (sched m) κ (kcell (c, k))))
          ∗ (bigSep Finset.univ fun k : Cell => iprop(atPos ER (kcell (c, k)) 0 ∅ 0 ∗ reached ER (kcell (c, k)) 0)) ∗ ownToks c) := by
  unfold minted
  iintro ⟨Hos, Hus, Hst, Hrest⟩
  ihave Hv := (all_zero (F := F) c) $$ [Hos Hus]
  · isplitl [Hos]; · iexact Hos
    iexact Hus
  imod (share_cells m c) $$ [Hv Hst] with Hinv
  · isplitl [Hv]; · iexact Hv
    iexact Hst
  imodintro
  isplitl [Hinv]; · iexact Hinv
  iexact Hrest

/-! ## The tokens dealt -/

/-- Over all devices and shifts, an assertion at a device is the assertion at the device the shift reaches. -/
theorem over_shift (Φ : Dev nD → Fin 7 → sProp (MT nD τ sig Unit (Elt F) ℕ UU ℕ)) :
    (bigSep Finset.univ fun c : Dev nD => bigSep Finset.univ fun j : Fin 7 => Φ c j)
      = bigSep Finset.univ fun c : Dev nD => bigSep Finset.univ fun j : Fin 7 => Φ (peer c j) j := by
  rw [bigSep_univ_comm, bigSep_univ_comm (fun c j => Φ (peer c j) j)]
  exact bigSep_congr fun j _ => bigSep_univ_equiv (shift j) fun c => Φ c j

/-- The tokens a device spends. -/
def paidToks (c : Dev nD) : sProp 𝕄 :=
  iprop((bigSep Finset.univ fun j : Fin 7 => dutyTok ER (barCell (peer c j)) 0 j.rev)
    ∗ (bigSep Finset.univ fun j : Fin 7 => dutyTok ER (sendCell c j) 0 0)
    ∗ (bigSep Finset.univ fun j : Fin 7 => dutyTok ER (recvCell (peer c j) j) 0 0))

/-- The tokens grouped by owner are the tokens grouped by payer. -/
theorem deal : (bigSep Finset.univ fun c : Dev nD => (ownToks c : sProp 𝕄)) = bigSep Finset.univ fun c : Dev nD => paidToks c := by
  unfold ownToks paidToks
  rw [bigSep_sep', bigSep_sep', bigSep_sep', bigSep_sep',
    ← over_shift (fun c j => (dutyTok ER (barCell c) 0 j.rev : sProp 𝕄)),
    ← over_shift (fun c j => (dutyTok ER (recvCell c j) 0 0 : sProp 𝕄))]
  refine congrArg (fun P : sProp 𝕄 => iprop(P ∗ _)) ?_
  exact bigSep_congr fun c _ => bigSep_univ_equiv Fin.revPerm fun k : Fin 7 => (dutyTok ER (barCell c) 0 k : sProp 𝕄)

/-- The records, the positions and the paid tokens make a device's dealt share. -/
theorem share_intro (K : Dev nD × Cell → ℕ) (c : Dev nD) :
    iprop(records m K ∗ ((bigSep Finset.univ fun k : Cell => atPos ER (kcell (c, k)) 0 ∅ 0) ∗ paidToks c)) ⊢ dealt m c := by
  unfold dealt share paidToks
  rw [over_sum, over_unit, over_sum, bigSep_sep']
  iintro ⟨HR, ⟨HB, HS, HV⟩, HtB, HtS, HtV⟩
  iexists K
  isplitl [HR]; · iexact HR
  isplitl [HB]; · iexact HB
  isplitl [HS]; · iexact HS
  isplitl [HV]; · iexact HV
  isplitl [HtB]; · iexact HtB
  isplitl [HtS]; · iexact HtS
  iexact HtV

/-- What every device opened, regrouped, is what every device is dealt. -/
theorem regroup :
    (bigSep Finset.univ fun c : Dev nD => iprop((bigSep Finset.univ fun k : Cell => iprop(∃ κ : ℕ, cellInv ER (sched m) κ (kcell (c, k))))
          ∗ (bigSep Finset.univ fun k : Cell => iprop(atPos ER (kcell (c, k)) 0 ∅ 0 ∗ reached ER (kcell (c, k)) 0)) ∗ ownToks c) : sProp 𝕄)
      ⊢ bigSep Finset.univ (dealt m) := by
  rw [bigSep_sep', bigSep_sep', ← bigSep_univ_prod (fun ck : Dev nD × Cell => iprop(∃ κ : ℕ, cellInv ER (sched m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄)), deal]
  iintro ⟨HI, ⟨Hat, HR⟩, Htok⟩
  ihave HK := (BI.bigSep_exists_pi Finset.univ (fun (ck : Dev nD × Cell) (κ : ℕ) => (cellInv ER (sched m) κ (kcell ck) : sProp 𝕄))) $$ HI
  icases HK with ⟨%K, HI⟩
  iapply (bigSep_beside (R := records m K) fun c => share_intro m K c)
  isplitl [HI HR]
  · unfold records; isplitl [HI]; · iexact HI
    iexact HR
  rw [bigSep_sep']
  isplitl [Hat]; · iexact Hat
  iexact Htok

/-- All devices' cells opened and shared at once. -/
theorem open_all : (bigSep Finset.univ fun c => iprop(Pipeline.ownSems0 (Ix := Unit) (Name := ℕ) (U := UU) (Lvl := ℕ) (Val := Elt F) (τ := τ) osem c ∗ unscopedSems0 c ∗ minted m c) : sProp 𝕄)
    ⊢ |={Set.univ}=> bigSep Finset.univ (dealt m) :=
  ((bigSep_mono fun c _ => open_cells m c).trans (bigSep_fupd _ _)).trans (BI.fupd_mono (regroup m))

/-! ## The credits at launch -/

/-- Barrier cells agree when their devices do. -/
theorem bar_cell_iff (a b : Dev nD) : barCell a = barCell b ↔ a = b :=
  ⟨fun h => congrArg Prod.fst (kcell_injective (a₁ := (a, .inl ())) (a₂ := (b, .inl ())) h), fun h => h ▸ rfl⟩
/-- Receive cells agree when their devices and indices do. -/
theorem recv_cell_iff (a b : Dev nD) (i j : Fin 7) : recvCell a i = recvCell b j ↔ a = b ∧ i = j :=
  ⟨fun h => by
    have e := kcell_injective (a₁ := (a, .inr (.inr i))) (a₂ := (b, .inr (.inr j))) h
    exact ⟨congrArg Prod.fst e, Sum.inr.inj (Sum.inr.inj (congrArg Prod.snd e))⟩, fun ⟨h, h'⟩ => by rw [h, h']⟩
/-- A barrier cell is never a receive cell. -/
theorem bar_ne_recv (a b : Dev nD) (j : Fin 7) : barCell a ≠ recvCell b j := fun h =>
  absurd (congrArg Prod.snd (kcell_injective (a₁ := (a, .inl ())) (a₂ := (b, .inr (.inr j))) h)) (by simp)

/-- Exactly one device has a given device as its peer at a given step. -/
theorem sum_shift (c : Dev nD) (j : Fin 7) (n : ℕ) : (∑ d : Dev nD, if c = peer d j then n else 0) = n := by
  rw [Finset.sum_congr rfl fun d _ => (show (if c = peer d j then n else 0) = if shift j d = c then n else 0 from
    if_congr eq_comm rfl rfl), (shift j).sum_comp fun x => if x = c then n else 0, Finset.sum_ite_eq' Finset.univ c fun _ => n,
    if_pos (Finset.mem_univ _)]

/-- What one device owes another's barrier cell. -/
theorem owed_at_bar (d c : Dev nD) : O₀ d (barCell c) () = ∑ j : Fin 7, if c = peer d j then 1 else 0 := by
  unfold O₀
  rw [Pi.add_apply, Finsupp.add_apply, owedRecv_apply, owedBar_apply,
    Finset.sum_eq_zero fun j _ => by rw [tallyAt_apply, if_neg fun h => bar_ne_recv c _ j h.1], Nat.zero_add, Finset.filter_true_of_mem fun j _ => Nat.zero_le _]
  exact Finset.sum_congr rfl fun j _ => by
    rw [tallyAt_apply]; exact if_congr ((and_iff_left rfl).trans (bar_cell_iff _ _)) rfl rfl
/-- What one device owes another's receive cell. -/
theorem owed_at_recv (d c : Dev nD) (i : Fin 7) : O₀ d (recvCell c i) () = if c = peer d i then N else 0 := by
  unfold O₀
  rw [Pi.add_apply, Finsupp.add_apply, owedRecv_apply, owedBar_apply,
    Finset.sum_eq_zero (s := Finset.univ.filter _) (f := fun j => (tallyAt (barCell (peer d j)) () 1 : CellTallies nD τ sig Unit) (recvCell c i) ()) fun j _ => by
      rw [tallyAt_apply, if_neg fun h => bar_ne_recv _ c i h.1.symm],
    Nat.add_zero, Finset.filter_true_of_mem fun j _ => Nat.zero_le _,
    Finset.sum_eq_single i (fun j _ hj => by rw [tallyAt_apply, if_neg fun h => hj ((recv_cell_iff _ _ _ _).mp h.1).2.symm]) fun h => absurd (Finset.mem_univ i) h,
    tallyAt_apply]
  exact if_congr ((and_iff_left rfl).trans ((recv_cell_iff _ _ _ _).trans (and_iff_left rfl))) rfl rfl

/-- The launch grants a barrier cell seven credits. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_at_bar d c, Finset.sum_comm,
    Finset.sum_congr rfl fun j _ => sum_shift c j 1]
  rfl
/-- The launch grants a receive cell one block's credits. -/
theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_at_recv d c j, sum_shift]

/-- A device's launch credits are those of its barrier cell and of its receive cells. -/
theorem credits (c : Dev nD) : (Pipeline.launchCred O₀ c : sProp 𝕄)
    ⊢ iprop(cred (tallyAt (barCell c) () 7) ∗ bigSep Finset.univ fun j : Fin 7 => cred (tallyAt (recvCell c j) () N)) := by
  unfold Pipeline.launchCred
  refine (bigSep_subset (Finset.subset_univ (Finset.univ.map ⟨csem, csem_injective⟩))).trans ?_
  rw [bigSep_map, over_sum, over_unit, over_sum]
  show iprop(cred (tallyOn (barCell c) (launchCredit (Pipeline.owing O₀) 0 (barCell c)))
      ∗ (bigSep Finset.univ fun j : Fin 7 => cred (tallyOn (sendCell c j) (launchCredit (Pipeline.owing O₀) 0 (sendCell c j))))
      ∗ bigSep Finset.univ fun j : Fin 7 => cred (tallyOn (recvCell c j) (launchCredit (Pipeline.owing O₀) 0 (recvCell c j)))) ⊢ _
  iintro ⟨HB, -, HV⟩
  isplitl [HB]; · iapply (Entails.of_eq (congrArg (fun t => (cred t : sProp 𝕄)) (launch_bar c))); iexact HB
  iapply (Entails.of_eq (bigSep_congr (s := Finset.univ) fun (j : Fin 7) _ => congrArg (fun t => (cred t : sProp 𝕄)) (launch_recv c j))); iexact HV

/-! ## The theorem's side conditions -/

/-- What the launch hands a device makes its starting state. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  iintro ⟨-, Hlev, Hcr, -, HG⟩
  ihave Hc := (credits (F := F) c) $$ Hcr
  icases Hc with ⟨HB, HV⟩
  imodintro
  unfold start dealt
  isplitl
  · isplitl [HG]; · iexact HG
    isplitl [HB]; · iexact HB
    isplitl [HV]; · iexact HV
    iexact Hlev
  iempintro

/-- The starting state and the scratch buffers make the state before the body. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches
  iintro ⟨Hs, -, Hr⟩
  isplitl [Hs]; · iexact Hs
  iexact Hr

/-- The state after the body returns every semaphore at zero and the scratch buffers. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scopedRest0_eq, own_zero, unscoped_zero]
  unfold Φ₁ scratches closed
  iintro ⟨Hr, HS, HV, HB⟩
  isplitl [HB]; · iexact HB
  isplitl [HS HV]
  · isplitl [HS]; · iexact HS
    iexact HV
  iexact Hr

/-- Every wait the pipeline makes is allowed by the levels. -/
theorem may_wait (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- A window's array at the end. -/
def endA (c : Dev nD) (w : Fin cfg0.W) : Buf (Elt F) ((cfg0.win w).arr.view.loc (c : Thread nD τ)) := (dats m 0 c).arrAt w cfg0.N

set_option maxRecDepth 8000 in
/-- On the eight devices, for any float values, from any memory with every semaphore at zero: every fair execution of
    the program ends, with every window's array at its computed contents and every semaphore at zero. -/
theorem run_windows : θ_run defs (onTc (τ := τ) (main (F := F))) (s₀ m ρ) (fun r =>
    (∀ c : Dev nD, ∀ w : Fin cfg0.W, r.2.mem ((cfg0.win w).arr.view.loc (c : Thread nD τ)) = endA m c w) ∧ r.2.sem = fun _ => 0) :=
  Pipeline.θ_run_region_owing_glob_pf (fun p => (cfgs p).toPCfg) (fun p => (cfgs p).toPCfg_adm) (dats m) () cellOf_inj (0 : Fin 1)
    winFacts0.to₀ own_sems (Pipeline.PreFacts.none _) EP defs₀ 𝒱₀ m ρ main
    (hmain := fun _ => rfl)
    (hbody := bodyObligation m) (hne := fun w => by fin_cases w <;> exact Nat.succ_pos _) (harr := arr_whole0) (hstage := stage_whole0)
    (hshare := window_share m) (hdistinct := winFacts0.arr_inj)
    (O₀ := O₀) (howed₀ := fun _ => rfl) (howedN := fun _ => rfl)
    (L := L) (lv := lv) (hL := L_of_ne) (hwaits := may_wait m)
    (G := minted m) (G' := dealt m) (u₀ := u₀)
    (hu₀ := by
      unfold u₀
      iintro Hu
      ihave H := (ownU_pair _ _) $$ Hu
      icases H with ⟨HP, HX⟩
      imod (mint m) $$ HX with HG
      imodintro
      isplitl [HP]; · iexact HP
      iexact HG)
    (hglob := open_all m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The result's window reads its whole buffer. -/
theorem read_result (c : Dev nD) (f : Buf (Elt F) ((c : Thread nD τ).loc main_v1)) :
    (win0_5.blk t0_0).view.read (Elt F) f = f :=
  Memref.read_access_unit_zero (Elt F) main_v1
    (show (fun a => win0_5.index t0_0 a * main_v1.ty.shape.size a) = fun _ => 0 from funext fun a => by fin_cases a <;> decide)
    (fun a => by fin_cases a <;> decide) f

/-- The result's window writes the whole array at its one point. -/
theorem endA_result (c : Dev nD) : endA m c (5 : Fin 6) = result m c := by
  have hw : (win0_5.blk t0_0).view.read (Elt F) (endA m c (5 : Fin 6)) = result m c := by
    unfold endA
    rw [show cfg0.N = t0_0.val + 1 from rfl, (dats m 0 c).arrAt_succ (5 : Fin 6) t0_0, flush0_5, if_pos rfl]
    exact View.read_write_univ _ _
  exact (read_result c _).symm.trans hw

/-- Every fair execution ends with each device's arguments unchanged, its result block computed, and every semaphore at zero. -/
theorem run_main : θ_run defs (onTc (τ := τ) (main (F := F))) ⟨m, fun _ => 0, ρ⟩ (fun r =>
    (∀ c : Dev nD, r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c 5).trans (endA_result m c),
    (h.1 c 0).trans ((dats (F := F) m 0 c).arrAt_in (0 : Fin 6) rfl _),
    (h.1 c 1).trans ((dats (F := F) m 0 c).arrAt_in (1 : Fin 6) rfl _),
    (h.1 c 2).trans ((dats (F := F) m 0 c).arrAt_in (2 : Fin 6) rfl _),
    (h.1 c 3).trans ((dats (F := F) m 0 c).arrAt_in (3 : Fin 6) rfl _),
    (h.1 c 4).trans ((dats (F := F) m 0 c).arrAt_in (4 : Fin 6) rfl _)⟩, h.2⟩) (run_windows m ρ)

end Cert.Exchange

end
-- ==== Proof.Frames.lean ====
/-
# The frames

Each program runs with its arguments unchanged and every semaphore back at zero: the kernel and its idealization by the
one run stated for any float values, the reference because it only computes.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Exchange

open Idealize.ShloMosaic Idealize.SL.Sem

/-- For any float values, the run with the result left out. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (run_main (F := F) m ρ)

/-- The kernel as printed and its idealization have the one body table. -/
theorem same_bodies : Cert.Kernel.defs₀ (F := Bits) = Cert.KernelIdeal.defs₀ (F := Bits) := by
  unfold Cert.Kernel.defs₀ Cert.KernelIdeal.defs₀
  refine congrArg Defs.onTc ?_
  funext l a
  rcases l with ⟨_ | n, h⟩
  · rfl
  · exact absurd h (Nat.not_lt.2 (Nat.le_add_left _ _))
/-- The kernel and its idealized form have the same definitions over bit patterns. -/
theorem same_defs : Cert.Kernel.defs (F := Bits) = Cert.KernelIdeal.defs (F := Bits) := by
  unfold Cert.Kernel.defs Cert.KernelIdeal.defs
  rw [same_bodies]; rfl

/-- The kernel as printed, over the bit formats. -/
theorem frame_kernel : Cert.quiescent_Kernel := fun m ρ _ => by
  rw [same_defs]; exact frame_any (F := Bits) m ρ

/-- The kernel over the extended reals. -/
theorem frame_ideal : Cert.quiescent_KernelIdeal := fun m ρ _ => frame_any (F := Ideal) m ρ

/-- The reference has no semaphore. -/
theorem reference_no_sem : (Finset.univ : Finset (SemLoc Cert.ReferenceIdeal.sig)) = ∅ := by decide

/-- The reference always ends, with its arguments unchanged and no semaphore left raised. -/
theorem frame_reference : Cert.quiescent_ReferenceIdeal := fun m ρ _ =>
  (θ_run Cert.ReferenceIdeal.defs _ _).mono (fun _ h => ⟨fun c => (h c).2, funext fun g =>
    absurd (reference_no_sem ▸ Finset.mem_univ g.2 : g.2 ∈ (∅ : Finset (SemLoc Cert.ReferenceIdeal.sig))) (Finset.notMem_empty _)⟩)
    (Cert.ReferenceIdeal.Value.run (F := Ideal) m ρ)

end Cert.Exchange

end
-- ==== Proof.Routing.lean ====
/-
# Routing coefficients, and the sums they take part in

A token row `x` and the router's matrix `w` give sixteen scores, whose softmax is `prob`. A token names one expert by a
word; `atNamed` is a quantity taken at the expert the word names, and nothing when it names none. Here are the words'
comparisons, the sums over experts and devices the two programs form, and that the softmax of finite scores is a number
that is not negative.
-/
module

public import Idealize.ShloMosaic.Lib.Pointwise
public import Idealize.ShloMosaic.Lib.WordCmp

@[expose] public section

noncomputable section

namespace Cert.Routing

open Idealize.ShloMosaic

/-! ## The softmax of a row of scores -/

/-- The score of expert `e` for the token row `x`. -/
def score (x : Fin 256 → EReal) (w : Fin 256 → Fin 16 → EReal) (e : Fin 16) : EReal := ∑ k, x k * w k e

/-- The largest of the sixteen scores. -/
def best (x : Fin 256 → EReal) (w : Fin 256 → Fin 16 → EReal) : EReal :=
  Finset.fold max (Ideal.ofBits FTy.f32 0xFF800000#32) (fun e => score x w e) Finset.univ

/-- The softmax of the scores at expert `e`. -/
def prob (x : Fin 256 → EReal) (w : Fin 256 → Fin 16 → EReal) (e : Fin 16) : EReal :=
  Ideal.div (Ideal.exp (score x w e - best x w)) (∑ e', Ideal.exp (score x w e' - best x w))

/-- This bit pattern is minus infinity. -/
theorem ofBits_neg_inf : Ideal.ofBits FTy.f32 0xFF800000#32 = ⊥ := by simp [Ideal.ofBits, Ideal.ieee]

/-- This bit pattern is plus infinity. -/
theorem ofBits_inf : Ideal.ofBits FTy.f32 0x7F800000#32 = ⊤ := by simp [Ideal.ofBits, Ideal.ieee]

/-- A finite sum of real numbers is a real number. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The largest of some real numbers, at least one of them, is a real number. -/
theorem fold_max_real {ι : Type} (s : Finset ι) (hs : s.Nonempty) (f : ι → ℝ) :
    ∃ b : ℝ, Finset.fold max (⊥ : EReal) (fun i => (f i : EReal)) s = b := by
  classical
  induction hs using Finset.Nonempty.cons_induction with
  | singleton a => exact ⟨f a, by simp⟩
  | cons a s ha hs ih =>
    obtain ⟨b, hb⟩ := ih
    exact ⟨max (f a) b, by rw [Finset.fold_cons, hb, EReal.coe_strictMono.monotone.map_max]⟩

/-- When the token row and the router's matrix hold real numbers, every softmax value is a real number, at least zero. -/
theorem prob_real (x : Fin 256 → EReal) (w : Fin 256 → Fin 16 → EReal) (hx : ∀ k, x k ≠ ⊤ ∧ x k ≠ ⊥)
    (hw : ∀ k e, w k e ≠ ⊤ ∧ w k e ≠ ⊥) (e : Fin 16) : 0 ≤ prob x w e ∧ prob x w e ≠ ⊤ := by
  have hs : ∀ e, score x w e = ((∑ k, (x k).toReal * (w k e).toReal : ℝ) : EReal) := fun e => by
    rw [score, ← coe_sum]
    refine Finset.sum_congr rfl fun k _ => ?_
    rw [EReal.coe_mul, EReal.coe_toReal (hx k).1 (hx k).2, EReal.coe_toReal (hw k e).1 (hw k e).2]
  obtain ⟨b, hb⟩ := fold_max_real (Finset.univ : Finset (Fin 16)) Finset.univ_nonempty (fun e => ∑ k, (x k).toReal * (w k e).toReal)
  have hbest : best x w = b := by
    rw [best, ofBits_neg_inf, ← hb]
    exact congrArg (fun f => Finset.fold max (⊥ : EReal) f Finset.univ) (funext hs)
  have he : ∀ e, Ideal.exp (score x w e - best x w) = (Real.exp ((∑ k, (x k).toReal * (w k e).toReal) - b) : ℝ) := fun e => by
    rw [hs, hbest, ← EReal.coe_sub, Ideal.exp_coe]
  have hpos : (0 : ℝ) < ∑ e' : Fin 16, Real.exp ((∑ k, (x k).toReal * (w k e').toReal) - b) :=
    Finset.sum_pos (fun _ _ => Real.exp_pos _) Finset.univ_nonempty
  have hp : prob x w e = ((Real.exp ((∑ k, (x k).toReal * (w k e).toReal) - b)
      / ∑ e' : Fin 16, Real.exp ((∑ k, (x k).toReal * (w k e').toReal) - b) : ℝ) : EReal) := by
    rw [prob, he, Finset.sum_congr rfl fun e' _ => he e', coe_sum, Ideal.div_coe hpos.ne', ← EReal.coe_mul, mul_one_div]
  rw [hp]
  exact ⟨EReal.coe_nonneg.2 (div_nonneg (Real.exp_pos _).le hpos.le), EReal.coe_ne_top _⟩

/-! ## What a word names -/

/-- The quantity `g` at the expert the word names, and zero when it names none of the sixteen. -/
def atNamed (w : BitVec 32) (g : Fin 16 → EReal) : EReal := if h : w.toNat < 16 then g ⟨w.toNat, h⟩ else 0

/-- The reference's guard holds exactly when the word names an expert. -/
theorem guard_eq (w : BitVec 32) : IntOp.andi (IntOp.cmpi .sge w 0#32) (IntOp.cmpi .slt w 16#32) = BitVec.ofBool (decide (w.toNat < 16)) := by
  have h16 : (16#32 : BitVec 32).toInt = 16 := by decide
  have h0 : (0#32 : BitVec 32).toInt = 0 := by decide
  rw [WordCmp.cmpi_sge_eq, WordCmp.cmpi_slt_eq, h16, h0, IntOp.andi]
  have hw := w.isLt
  have ht := BitVec.toInt_eq_toNat_cond w
  by_cases h : w.toNat < 16
  · have e1 : (0 : Int) ≤ w.toInt := by rw [ht]; split <;> omega
    have e2 : w.toInt < 16 := by rw [ht]; split <;> omega
    simp [h, e1, e2]
  · have : ¬ ((0 : Int) ≤ w.toInt ∧ w.toInt < 16) := by rw [ht]; split <;> omega
    by_cases e1 : (0 : Int) ≤ w.toInt
    · have e2 : ¬ w.toInt < 16 := fun h' => this ⟨e1, h'⟩
      simp [h, e1, e2]
    · simp [h, e1]

/-- A choice made by an equality of words. -/
theorem select_eq_word (v w : BitVec 32) (a b : EReal) : Scalar.select (IntOp.cmpi .eq v w) a b = if v = w then a else b := by
  rw [WordCmp.cmpi_eq_eq]
  by_cases h : v = w
  · simp [h, Scalar.select]
  · simp [h, Scalar.select]

/-- An expert's number as a word is a given word when their values agree. -/
theorem ofNat_eq_iff (e : Fin 16) (w : BitVec 32) : BitVec.ofNat 32 e.val = w ↔ w.toNat = e.val := by
  have he := e.isLt
  constructor
  · rintro rfl; simp; omega
  · intro h; apply BitVec.eq_of_toNat_eq; simp; omega

/-- Adding up over the experts whatever stands at the named one gives it. -/
theorem sum_named (w : BitVec 32) (g : Fin 16 → EReal) : (∑ e : Fin 16, if BitVec.ofNat 32 e.val = w then g e else 0) = atNamed w g := by
  unfold atNamed
  split
  next h =>
    rw [Finset.sum_eq_single ⟨w.toNat, h⟩]
    · rw [if_pos ((ofNat_eq_iff _ w).2 rfl)]
    · intro e _ hne
      rw [if_neg]
      exact fun h' => hne (Fin.ext ((ofNat_eq_iff e w).1 h').symm)
    · exact fun h' => absurd (Finset.mem_univ _) h'
  next h =>
    refine Finset.sum_eq_zero fun e _ => if_neg fun h' => h ?_
    rw [(ofNat_eq_iff e w).1 h']; exact e.isLt

/-! ## Sums over devices -/

/-- Two experts to a device make up the sixteen. -/
theorem sum_devices (g : Fin 16 → EReal) : (∑ d : Fin 8, ∑ b : Fin 2, g ⟨2 * d.val + b.val, by omega⟩) = ∑ e, g e := by
  rw [← Fintype.sum_prod_type' (f := fun (d : Fin 8) (b : Fin 2) => g ⟨2 * d.val + b.val, by omega⟩)]
  refine Fintype.sum_equiv (finProdFinEquiv (m := 8) (n := 2)) _ _ fun p => congrArg g (Fin.ext ?_)
  show 2 * p.1.val + p.2.val = p.2.val + 2 * p.1.val
  omega

/-- Contributions scaled before the product with the expert's weights, all but the named expert's being zero, add up to
    the named expert's. -/
theorem sum_experts (w : BitVec 32) (q : EReal) (x : Fin 256 → EReal) (v : Fin 16 → Fin 256 → EReal) :
    (∑ e : Fin 16, ∑ k, (if w = BitVec.ofNat 32 e.val then q * x k else 0) * v e k)
      = atNamed w fun e => ∑ k, q * x k * v e k := by
  rw [← sum_named]
  refine Finset.sum_congr rfl fun e _ => ?_
  by_cases h : BitVec.ofNat 32 e.val = w
  · rw [if_pos h]; exact Finset.sum_congr rfl fun k _ => by rw [if_pos h.symm]
  · rw [if_neg h]; exact Finset.sum_eq_zero fun k _ => by rw [if_neg (Ne.symm h), zero_mul]

/-- A real factor that is not negative comes out of a finite sum. -/
theorem mul_sum_real {ι : Type} (p : EReal) (h0 : 0 ≤ p) (ht : p ≠ ⊤) (s : Finset ι) (g : ι → EReal) :
    p * (∑ i ∈ s, g i) = ∑ i ∈ s, p * g i := by
  classical
  induction s using Finset.induction_on with
  | empty => simp
  | insert a s ha ih =>
    rw [Finset.sum_insert ha, Finset.sum_insert ha, EReal.left_distrib_of_nonneg_of_ne_top h0 ht, ih]

/-- Scaling the token's row by its own coefficient before the product is scaling the product. -/
theorem scaled_first (w : BitVec 32) (p : Fin 16 → EReal) (hp : ∀ e, 0 ≤ p e ∧ p e ≠ ⊤) (x : Fin 256 → EReal)
    (v : Fin 16 → Fin 256 → EReal) :
    (atNamed w fun e => ∑ k, atNamed w p * x k * v e k) = atNamed w fun e => p e * ∑ k, x k * v e k := by
  unfold atNamed
  split
  next h =>
    show (∑ k, p ⟨w.toNat, h⟩ * x k * v ⟨w.toNat, h⟩ k) = p ⟨w.toNat, h⟩ * ∑ k, x k * v ⟨w.toNat, h⟩ k
    rw [mul_sum_real _ (hp _).1 (hp _).2]
    exact Finset.sum_congr rfl fun k _ => mul_assoc _ _ _
  next h => rfl

end Cert.Routing

end
-- ==== Proof.KernelValue.lean ====
/-
# The kernel's result at an index

`routedPart` is what a device's two experts give a token: for each of the two, the product of its weights with the
token's row, scaled by the token's coefficient when the token names that expert and by nothing otherwise. The product
buffer holds these parts, row blocks turned (`products_at`), so what the eight devices hold for one token adds up to the
named expert's product; with the shared product it is the device's result (`result_at`).
-/
module

public import proofs.«01_k».proof.Proof.Contents
public import proofs.«01_k».proof.Proof.Routing

@[expose] public section

noncomputable section

namespace Cert.Exchange

open Cert.KernelIdeal Cert.KernelIdeal.Gen
open Cert.Routing
open Idealize.ShloMosaic Idealize.ShloMosaic.TcCoe

/-! ## The kernel's arithmetic at an index -/

section Arithmetic

variable (x : Vec Ideal S512x256 .bf16) (w : Vec Ideal S256x16 .bf16) (i : Vec Ideal S512x1 .i32)

/-- The coefficient of token `r`: the softmax value at the expert the token names. -/
def coefficient (r : Fin 512) : EReal := atNamed (i (ix2 r 0)) (prob (fun k => x (ix2 r k)) (fun k e => w (ix2 k e)))

/-- The stored coefficient, entry by entry. -/
theorem coefficient_at (r : Fin 512) : k0_pay3 x w i (ix2 r 0) = coefficient x w i r := by
  unfold coefficient
  rw [← sum_named]
  trans ∑ e : Fin 16, Scalar.select (IntOp.cmpi .eq (BitVec.ofNat 32 e.val) (i (ix2 r 0)))
      (prob (fun k => x (ix2 r k)) (fun k e => w (ix2 k e)) e) 0
  · unfold prob best score
    pointwise [k0_pay3, k0_pay1, k0_pay2]
  · exact Finset.sum_congr rfl fun e _ => select_eq_word _ _ _ _

/-- The tokens scaled for the device's first expert, -/
theorem first_at (q : FVec Ideal S512x1 .f32) (p : BitVec 32) (r : Fin 512) (k : Fin 256) :
    k0_pay6 (k0_pay1 x) q (k0_pay4 (F := Ideal) p i) (k0_pay5 (F := Ideal)) (ix2 r k)
      = if i (ix2 r 0) = Scalar.muli p 2#32 then q (ix2 r 0) * x (ix2 r k) else 0 := by
  trans Scalar.select (IntOp.cmpi .eq (i (ix2 r 0)) (Scalar.muli p 2#32)) (q (ix2 r 0) * x (ix2 r k) : EReal) 0
  · pointwise [k0_pay6, k0_pay1, k0_pay4, k0_pay5, k0_pay2]
  · exact select_eq_word _ _ _ _

/-- and for its second. -/
theorem second_at (q : FVec Ideal S512x1 .f32) (p : BitVec 32) (r : Fin 512) (k : Fin 256) :
    k0_pay7 (k0_pay1 x) (k0_pay2 (F := Ideal) i) q p (ix2 r k)
      = if i (ix2 r 0) = Scalar.addi p 1#32 then q (ix2 r 0) * x (ix2 r k) else 0 := by
  trans Scalar.select (IntOp.cmpi .eq (i (ix2 r 0)) (Scalar.addi p 1#32)) (q (ix2 r 0) * x (ix2 r k) : EReal) 0
  · pointwise [k0_pay7, k0_pay1, k0_pay2]
  · exact select_eq_word _ _ _ _

/-- The first product, entry by entry. -/
theorem top_at (z : FVec Ideal S512x512 .bf16) (y : FVec Ideal S256x512 .bf16) (r : Fin 256) (f : Fin 512) :
    k0_pay19 (k0_pay18 z y) (ix2 r f) = ∑ k : Fin 512, y (ix2 r k) * z (ix2 k f) := by
  pointwise [k0_pay19, k0_pay18]

/-- The second product, entry by entry. -/
theorem bot_at (z : FVec Ideal S512x512 .bf16) (y : FVec Ideal S256x512 .bf16) (r : Fin 256) (f : Fin 512) :
    k0_pay20 z y (ix2 r f) = ∑ k : Fin 512, y (ix2 r k) * z (ix2 k f) := by
  pointwise [k0_pay20]

/-- The first expert's slab, entry by entry. -/
theorem weights_fst_at (e : FVec Ideal S1x256x512 .bf16) (k : Fin 256) (f : Fin 512) :
    k0_pay16 e (ix2 k f) = e (ix3 0 k f) := by
  pointwise [k0_pay16]

/-- The second expert's slab, entry by entry. -/
theorem weights_snd_at (e : FVec Ideal S1x256x512 .bf16) (k : Fin 256) (f : Fin 512) :
    k0_pay17 e (ix2 k f) = e (ix3 0 k f) := by
  pointwise [k0_pay17]

/-- The result, entry by entry: the shared product, the kept block and the received slots added up. -/
theorem total_at (y : FVec Ideal S64x256 .bf16) (s : FVec Ideal S256x512 .bf16) (o : FVec Ideal S64x512 .bf16)
    (g : FVec Ideal S7x64x512 .bf16) (a : Fin 64) (f : Fin 512) :
    @Eq EReal (k0_pay22 (F := Ideal) (k0_pay21 y s o) g (ix2 a f))
      ((∑ k, y (ix2 a k) * s (ix2 k f)) + o (ix2 a f) + ∑ j, g (ix3 j a f)) := by
  pointwise [k0_pay22, k0_pay21]

end Arithmetic

/-! ## What a device's experts give a token -/

/-- What the experts of device `d`, with weights `e`, give token `r` at feature `f`. -/
def routedPart (x : Vec Ideal S512x256 .bf16) (w : Vec Ideal S256x16 .bf16) (i : Vec Ideal S512x1 .i32)
    (e : Vec Ideal S2x256x512 .bf16) (d : Fin 8) (r f : Fin 512) : EReal :=
  ∑ b : Fin 2, ∑ k : Fin 256,
    (if i (ix2 r 0) = BitVec.ofNat 32 (2 * d.val + b.val) then coefficient x w i r * x (ix2 r k) else 0) * e (ix3 b k f)

variable (m : (ℓ : Loc nD τ sig) → Buf (Elt Ideal) ℓ)

/-- The number of a device's first expert. -/
theorem place_fst (d : Dev nD) : Scalar.muli (place d) 2#32 = BitVec.ofNat 32 (2 * d.val + (0 : Fin 2).val) := by
  revert d; decide

/-- The number of a device's second expert. -/
theorem place_snd (d : Dev nD) : Scalar.addi (Scalar.muli (place d) 2#32) 1#32 = BitVec.ofNat 32 (2 * d.val + (1 : Fin 2).val) := by
  revert d; decide

/-- The activations scaled for the first expert, entry by entry. -/
theorem scaledFst_at (d : Dev nD) (r : Fin 512) (k : Fin 256) : scaledFst m d (ix2 r k)
    = if idxIn m d (ix2 r 0) = BitVec.ofNat 32 (2 * d.val + (0 : Fin 2).val)
        then coefficient (xIn m d) (rwIn m d) (idxIn m d) r * xIn m d (ix2 r k) else 0 := by
  unfold scaledFst
  rw [first_at, coefficient_at, place_fst]

/-- The activations scaled for the second expert, entry by entry. -/
theorem scaledSnd_at (d : Dev nD) (r : Fin 512) (k : Fin 256) : scaledSnd m d (ix2 r k)
    = if idxIn m d (ix2 r 0) = BitVec.ofNat 32 (2 * d.val + (1 : Fin 2).val)
        then coefficient (xIn m d) (rwIn m d) (idxIn m d) r * xIn m d (ix2 r k) else 0 := by
  unfold scaledSnd
  rw [second_at, coefficient_at, place_snd]

/-- The two halves of a scaled row are the two experts', -/
theorem scaled_left (d : Dev nD) (r : Fin 512) (k : Fin 256) :
    scaled m d (ix2 r (Fin.castAdd 256 k)) = scaledFst m d (ix2 r k) := by
  unfold scaled
  rw [dif_pos (show ((ix2 r (Fin.castAdd 256 k) : S512x512.Idx) 1).val < 256 from k.isLt)]
  exact congrArg (scaledFst m d) (ix2_eq_valueIdx _ _).symm

/-- The right half of the scaled activations is the second expert's. -/
theorem scaled_right (d : Dev nD) (r : Fin 512) (k : Fin 256) :
    scaled m d (ix2 r (Fin.natAdd 256 k)) = scaledSnd m d (ix2 r k) := by
  unfold scaled
  rw [dif_neg (show ¬ ((ix2 r (Fin.natAdd 256 k) : S512x512.Idx) 1).val < 256 from by
    show ¬ 256 + k.val < 256
    omega)]
  refine (congrArg (scaledSnd m d) (ix2_eq_valueIdx _ _).symm).trans ?_
  refine congrArg (fun q => scaledSnd m d (ix2 r q)) (Fin.ext ?_)
  show 256 + k.val - 256 = k.val
  omega

/-- and so are the two halves of the stacked weights. -/
theorem stacked_upper (d : Dev nD) (k : Fin 256) (f : Fin 512) :
    stacked m d (ix2 (Fin.castAdd 256 k) f) = ewIn m d (ix3 0 k f) := by
  unfold stacked
  rw [dif_pos (show ((ix2 (Fin.castAdd 256 k) f : S512x512.Idx) 0).val < 256 from k.isLt)]
  refine (congrArg (k0_pay16 _) (ix2_eq_valueIdx _ _).symm).trans ((weights_fst_at _ _ _).trans ?_)
  exact congrArg (ewIn m d) (ix3_eq_valueIdx _ _ _).symm

/-- The lower half of the stacked weights is the second expert's. -/
theorem stacked_lower (d : Dev nD) (k : Fin 256) (f : Fin 512) :
    stacked m d (ix2 (Fin.natAdd 256 k) f) = ewIn m d (ix3 1 k f) := by
  unfold stacked
  rw [dif_neg (show ¬ ((ix2 (Fin.natAdd 256 k) f : S512x512.Idx) 0).val < 256 from by
    show ¬ 256 + k.val < 256
    omega)]
  refine (congrArg (k0_pay17 _) (ix2_eq_valueIdx _ _).symm).trans ((weights_snd_at _ _ _).trans ?_)
  refine (congrArg (ewIn m d) (ix3_eq_valueIdx _ _ _).symm).trans ?_
  refine congrArg (fun q => ewIn m d (ix3 1 q f)) (Fin.ext ?_)
  show 256 + k.val - 256 = k.val
  omega

/-- A scaled row times the stacked weights is what the device's experts give the row's token. -/
theorem scaled_stacked (d : Dev nD) (r f : Fin 512) :
    (∑ κ : Fin 512, (scaled m d (ix2 r κ) : EReal) * stacked m d (ix2 κ f))
      = routedPart (xIn m d) (rwIn m d) (idxIn m d) (ewIn m d) d r f := by
  refine (Fin.sum_univ_add (a := 256) (b := 256) (fun κ : Fin 512 => (scaled m d (ix2 r κ) : EReal) * stacked m d (ix2 κ f))).trans ?_
  unfold routedPart
  rw [Fin.sum_univ_two]
  refine congrArg₂ _ (Finset.sum_congr rfl fun k _ => ?_) (Finset.sum_congr rfl fun k _ => ?_)
  · rw [scaled_left, stacked_upper, scaledFst_at]
  · rw [scaled_right, stacked_lower, scaledSnd_at]

/-- Row `64 b + a` of the turned rows is the scaled row `a` of the block `b + 1` places on. -/
theorem turned_at (d : Dev nD) (b : Fin 8) (a : Fin 64) (k : Fin 512) :
    turned m d (ix2 ⟨64 * b.val + a.val, by omega⟩ k) = scaled m d (ix2 ⟨64 * ((d.val + b.val + 1) % 8) + a.val, by omega⟩ k) := by
  unfold turned
  refine (congrArg (scaled m d) (ix2_eq_valueIdx _ _).symm).trans ?_
  refine congrArg (fun q => scaled m d (ix2 q k)) (Fin.ext ?_)
  show 64 * ((d.val + ((64 * b.val + a.val) / 64 + 1)) % 8) + (64 * b.val + a.val) % 64 = 64 * ((d.val + b.val + 1) % 8) + a.val
  have h1 : (64 * b.val + a.val) / 64 = b.val := by omega
  have h2 : (64 * b.val + a.val) % 64 = a.val := by omega
  rw [h1, h2, Nat.add_assoc]

/-- Either half of the product buffer is the turned rows times the stacked weights. -/
theorem products_row (d : Dev nD) (r f : Fin 512) :
    products m d (ix2 r f) = ∑ κ : Fin 512, (turned m d (ix2 r κ) : EReal) * stacked m d (ix2 κ f) := by
  unfold products
  by_cases h : r.val < 256
  · rw [dif_pos (show ((ix2 r f : S512x512.Idx) 0).val < 256 from h)]
    refine (congrArg (prodTop m d) (ix2_eq_valueIdx _ _).symm).trans ?_
    refine (top_at _ _ _ _).trans (Finset.sum_congr rfl fun κ _ => ?_)
    refine congrArg (· * _) ?_
    exact congrArg (turned m d) (ix2_eq_valueIdx _ _).symm
  · rw [dif_neg (show ¬ ((ix2 r f : S512x512.Idx) 0).val < 256 from h)]
    refine (congrArg (prodBot m d) (ix2_eq_valueIdx _ _).symm).trans ?_
    refine (bot_at _ _ _ _).trans (Finset.sum_congr rfl fun κ _ => ?_)
    refine congrArg (· * _) ?_
    refine (congrArg (turned m d) (ix2_eq_valueIdx _ _).symm).trans ?_
    refine congrArg (fun q => turned m d (ix2 q κ)) (Fin.ext ?_)
    show 256 + (r.val - 256) = r.val
    omega

/-- Row `64 b + a` of the products of device `d` is what its experts give token `a` of the block `b + 1` places on. -/
theorem products_at (d : Dev nD) (b : Fin 8) (a : Fin 64) (f : Fin 512) :
    products m d (ix2 ⟨64 * b.val + a.val, by omega⟩ f)
      = routedPart (xIn m d) (rwIn m d) (idxIn m d) (ewIn m d) d ⟨64 * ((d.val + b.val + 1) % 8) + a.val, by omega⟩ f := by
  rw [products_row, ← scaled_stacked]
  exact Finset.sum_congr rfl fun κ _ => by rw [turned_at]

/-! ## The result -/

/-- Token `a` of the rows device `c` answers for. -/
def token (c : Fin 8) (a : Fin 64) : Fin 512 := ⟨64 * c.val + a.val, by omega⟩

/-- Shift by shift, the devices that send to `c`, and `c` itself, are all eight. -/
theorem sum_senders (c : Dev nD) (g : Fin 8 → EReal) : g c + ∑ j : Fin 7, g (peer c j.rev) = ∑ d, g d := by
  have h0 : ∀ c : Fin 8, c + 0 = c := by decide
  have hj : ∀ (c : Fin 8) (j : Fin 7), peer c j = c + j.succ := by decide
  rw [← Equiv.sum_comp (Equiv.addLeft (c : Fin 8)) g]
  refine Eq.trans ?_ (Fin.sum_univ_succ (n := 7) fun d => g (Equiv.addLeft (c : Fin 8) d)).symm
  refine congrArg₂ _ (congrArg g (h0 c).symm) ?_
  refine (Equiv.sum_comp Fin.revPerm (fun j : Fin 7 => g (peer c j))).trans ?_
  exact Finset.sum_congr rfl fun j _ => congrArg g (hj c j)

/-- The kept block, entry by entry: the device's own experts on its own rows. -/
theorem ownBlock_at (c : Dev nD) (a : Fin 64) (f : Fin 512) :
    ownBlock m c (ix2 a f) = routedPart (xIn m c) (rwIn m c) (idxIn m c) (ewIn m c) c (token c a) f := by
  unfold ownBlock
  refine (congrArg (products m c) (ix2_eq_valueIdx _ _).symm).trans ?_
  refine (products_at m c 7 a f).trans (congrArg (fun q => routedPart _ _ _ _ c q f) (Fin.ext ?_))
  show 64 * ((c.val + 7 + 1) % 8) + a.val = 64 * c.val + a.val
  have : c.val < 8 := c.isLt
  omega

/-- A received slot, entry by entry: the sender's experts on the receiver's rows. -/
theorem received_at (c : Dev nD) (j : Fin 7) (a : Fin 64) (f : Fin 512) : received m c (ix3 j a f)
    = routedPart (xIn m (peer c j.rev)) (rwIn m (peer c j.rev)) (idxIn m (peer c j.rev)) (ewIn m (peer c j.rev)) (peer c j.rev)
        (token c a) f := by
  unfold received
  refine (congrArg (products m (peer c j.rev)) (ix2_eq_valueIdx _ _).symm).trans ?_
  refine (products_at m (peer c j.rev) j.castSucc a f).trans (congrArg (fun q => routedPart _ _ _ _ (peer c j.rev) q f) (Fin.ext ?_))
  show 64 * (((peer c j.rev).val + j.val + 1) % 8) + a.val = 64 * c.val + a.val
  have h : ((peer c j.rev).val + j.val + 1) % 8 = c.val := congrArg Fin.val (rev_peer c j)
  rw [h]

/-- When every device holds the same tokens, router and words, and its two experts' weights out of the sixteen in `v`,
    its result at its token `a` is the shared product plus the named expert's product with the scaled row. -/
theorem result_at (x : Vec Ideal S512x256 .bf16) (w : Vec Ideal S256x16 .bf16) (i : Vec Ideal S512x1 .i32)
    (v : Shape.Idx ⟨3, ![16, 256, 512]⟩ → EReal) (s : Vec Ideal S256x512 .bf16)
    (hx : ∀ d, xIn m d = x) (hw : ∀ d, rwIn m d = w) (hi : ∀ d, idxIn m d = i) (hs : ∀ d, swIn m d = s)
    (hv : ∀ (d : Dev nD) (b : Fin 2) (k : Fin 256) (f : Fin 512), ewIn m d (ix3 b k f) = v (ix3 ⟨2 * d.val + b.val, by
      have : d.val < 8 := d.isLt
      omega⟩ k f))
    (c : Dev nD) (a : Fin 64) (f : Fin 512) : result m c (ix2 a f)
      = (∑ k, x (ix2 (token c a) k) * s (ix2 k f)) + atNamed (i (ix2 (token c a) 0)) fun e =>
          ∑ k, coefficient x w i (token c a) * x (ix2 (token c a) k) * v (ix3 e k f) := by
  unfold result ownPart
  rw [total_at, hs, add_assoc]
  refine congrArg₂ _ (Finset.sum_congr rfl fun k _ => congrArg (· * _) ?_) ?_
  · rw [← hx c]
    exact congrArg (xIn m c) (ix2_eq_valueIdx _ _).symm
  · rw [ownBlock_at]
    simp only [received_at, hx, hw, hi]
    rw [sum_senders c (fun d => routedPart x w i (ewIn m d) d (token c a) f), ← sum_experts, ← sum_devices]
    refine Finset.sum_congr rfl fun d _ => Finset.sum_congr rfl fun b _ => Finset.sum_congr rfl fun k _ => ?_
    rw [hv]

end Cert.Exchange

end
-- ==== Proof.ReferenceValue.lean ====
/-
# The reference's result at an index

The reference is one program on one device: `whole` is what its run leaves as a term of its five arguments, and
`whole_at` reads it: the shared product, and, when the token's word names an expert, the expert's product times the
softmax value there.
-/
module

public import proofs.«01_k».proof.Proof.Gen.ReferenceIdeal.Run
public import proofs.«01_k».proof.Proof.Routing

@[expose] public section

noncomputable section

namespace Cert.Whole

open Cert.ReferenceIdeal Cert.ReferenceIdeal.Gen
open Cert.Routing
open Idealize.ShloMosaic

variable (X : FVec Ideal S512x256 .bf16) (R : FVec Ideal S256x16 .bf16) (I : IVec S512x1 32)
  (W : FVec Ideal S16x256x512 .bf16) (S : FVec Ideal S256x512 .bf16)

/-- The scores of every token. -/
def scores : FVec Ideal S512x16 .f32 :=
  Host.dotGeneral dot_S512x256_S256x16_S512x16_1_0_0_1_n_n none (extf .f32 X bitsLt_bf16_f32) (extf .f32 R bitsLt_bf16_f32)

/-- The exponentials of the scores less the row's largest. -/
def exps : FVec Ideal S512x16 .f32 :=
  Host.exp (subf (scores X R) (broadcastInDim S512x16 ![0, 1] bcast_S512x1_S512x16_0_1 (broadcastInDim S512x1 ![0] bcast_S512_S512x1_0
    (Host.reduce FloatOps.maximumf (scores X R) (constant S_ .f32 0xFF800000#32) reducesTo_S512x16_S512_d1 h_S_))))

/-- The softmax of every token's scores. -/
def probs : FVec Ideal S512x16 .f32 :=
  Host.divf (exps X R) (broadcastInDim S512x16 ![0, 1] bcast_S512x1_S512x16_0_1 (broadcastInDim S512x1 ![0] bcast_S512_S512x1_0
    (Host.reduceAdd (exps X R) (constant S_ .f32 0x00000000#32) reducesTo_S512x16_S512_d1 h_S_)))

/-- Whether the token's word names one of the sixteen experts. -/
def named : IVec S512x1 1 :=
  andi (cmpi .sge I (broadcastInDim S512x1 ![] bcast_S_S512x1 (constantI S_ 32 0#32)))
    (cmpi .slt I (broadcastInDim S512x1 ![] bcast_S_S512x1 (constantI S_ 32 16#32)))

/-- The softmax value at the expert the token names. -/
def chosenProb : FVec Ideal S512x1 .f32 :=
  Host.gather gather_S512x16_S512x1x1_S512x1_n_1_0_0_1_2_11 (probs X R)
    (shapeCast _ (select (cmpi .slt I (broadcastInDim S512x1 ![] bcast_S_S512x1 (constantI S_ 32 0#32)))
      (addi I (broadcastInDim S512x1 ![] bcast_S_S512x1 (constantI S_ 32 16#32))) I) shapeCasts_S512x1_S512x1x1)

/-- The weights of the expert the token names. -/
def chosenWeights : FVec Ideal S512x256x512 .f32 :=
  Host.gather gather_S16x256x512_S512x1_S512x256x512_12_0_n_n_0_1_1256512 (extf .f32 W bitsLt_bf16_f32)
    (broadcastInDim S512x1 ![0] bcast_S512_S512x1_0 (shapeCast _ I shapeCasts_S512x1_S512))

/-- What the reference's run leaves as its result. -/
def whole : FVec Ideal S512x512 .f32 :=
  addf (Host.dotGeneral dot_S512x256_S256x512_S512x512_1_0_0_1_n_n none (extf .f32 X bitsLt_bf16_f32) (extf .f32 S bitsLt_bf16_f32))
    (select (broadcastInDim S512x512 ![0, 1] bcast_S512x1_S512x512_0_1 (named I))
      (mulf (broadcastInDim S512x512 ![0, 1] bcast_S512x1_S512x512_0_1 (chosenProb X R I))
        (Host.dotGeneral dot_S512x256_S512x256x512_S512x512_1_1_n_2_0_0 none (extf .f32 X bitsLt_bf16_f32) (chosenWeights I W)))
      (broadcastInDim S512x512 ![] bcast_S_S512x512 (id (constant S_ .f32 0x00000000#32))))

/-- The reference's run leaves `whole` of its arguments, in the result's buffer. -/
theorem run_whole (m : (ℓ : Loc nD τ sig) → Buf (Elt Ideal) ℓ) (ρ : Dev nD → PrngReg) :
    θ_run defs (onTc (τ := τ) (main (F := Ideal))) ⟨m, fun _ => 0, ρ⟩ fun r =>
      r.2.mem (((0 : Dev nD).tc : Thread nD τ).loc main_v27) = whole (m (((0 : Dev nD).tc : Thread nD τ).loc main_arg0))
        (m (((0 : Dev nD).tc : Thread nD τ).loc main_arg1)) (m (((0 : Dev nD).tc : Thread nD τ).loc main_arg2))
        (m (((0 : Dev nD).tc : Thread nD τ).loc main_arg3)) (m (((0 : Dev nD).tc : Thread nD τ).loc main_arg4)) :=
  (θ_run defs _ _).mono (fun _ h => (h 0).1) (Value.run m ρ)

/-- Taking, in each row of the softmax values, the one a word names: the word clamped to the table. -/
theorem pick (P : FVec Ideal S512x16 .f32) (j : IVec S512x1x1 32) (r : Fin 512) :
    Host.gather gather_S512x16_S512x1x1_S512x1_n_1_0_0_1_2_11 P j (ix2 r 0)
      = P (ix2 r ⟨min (j (ix3 r 0 0)).toInt.toNat 15, by omega⟩) := by
  unfold Host.gather
  refine congrArg P (funext fun a => Fin.ext ?_)
  have hs : ∀ h, GatherDims.siIdx gather_S512x16_S512x1x1_S512x1_n_1_0_0_1_2_11 (ix2 r 0) ⟨0, h⟩ = (ix3 r 0 0 : S512x1x1.Idx) := by
    intro h
    funext b; apply Fin.ext
    match b with
    | ⟨0, _⟩ => rfl
    | ⟨1, _⟩ => rfl
    | ⟨2, _⟩ => rfl
  match a with
  | ⟨0, _⟩ =>
    show GatherDims.start gather_S512x16_S512x1x1_S512x1_n_1_0_0_1_2_11 _ _ (0 : Fin _) + GatherDims.batchCoord gather_S512x16_S512x1x1_S512x1_n_1_0_0_1_2_11 _ (0 : Fin _) + GatherDims.offCoord gather_S512x16_S512x1x1_S512x1_n_1_0_0_1_2_11 _ (0 : Fin _) = r.val
    rw [GatherDims.start_batching _ _ _ _ (by decide), GatherDims.offCoord_eq_zero _ _ _ (by decide)]
    unfold GatherDims.batchCoord
    rw [dif_pos (by decide)]
    simp
    rfl
  | ⟨1, _⟩ =>
    show GatherDims.start gather_S512x16_S512x1x1_S512x1_n_1_0_0_1_2_11 _ _ (1 : Fin _) + GatherDims.batchCoord gather_S512x16_S512x1x1_S512x1_n_1_0_0_1_2_11 _ (1 : Fin _) + GatherDims.offCoord gather_S512x16_S512x1x1_S512x1_n_1_0_0_1_2_11 _ (1 : Fin _) = min _ 15
    rw [GatherDims.batchCoord_eq_zero _ _ _ (by decide), GatherDims.offCoord_eq_zero _ _ _ (by decide)]
    unfold GatherDims.start
    rw [dif_pos (by decide), ← hs (by decide)]
    rfl

/-- Taking, for each token, the weights a word names: the word clamped to the table. -/
theorem pickRows (P : FVec Ideal S16x256x512 .f32) (j : IVec S512x1 32) (r : Fin 512) (k : Fin 256) (f : Fin 512) :
    Host.gather gather_S16x256x512_S512x1_S512x256x512_12_0_n_n_0_1_1256512 P j (ix3 r k f)
      = P (ix3 ⟨min (j (ix2 r 0)).toInt.toNat 15, by omega⟩ k f) := by
  unfold Host.gather
  refine congrArg P (funext fun a => Fin.ext ?_)
  have hs : ∀ h, GatherDims.siIdx gather_S16x256x512_S512x1_S512x256x512_12_0_n_n_0_1_1256512 (ix3 r k f) ⟨0, h⟩ = (ix2 r 0 : S512x1.Idx) := by
    intro h
    funext b; apply Fin.ext
    match b with
    | ⟨0, _⟩ => rfl
    | ⟨1, _⟩ => rfl
  have hk : GatherDims.sKept gather_S16x256x512_S512x1_S512x256x512_12_0_n_n_0_1_1256512 = [1, 2] := by decide
  match a with
  | ⟨0, _⟩ =>
    show GatherDims.start gather_S16x256x512_S512x1_S512x256x512_12_0_n_n_0_1_1256512 _ _ (0 : Fin _) + GatherDims.batchCoord gather_S16x256x512_S512x1_S512x256x512_12_0_n_n_0_1_1256512 _ (0 : Fin _) + GatherDims.offCoord gather_S16x256x512_S512x1_S512x256x512_12_0_n_n_0_1_1256512 _ (0 : Fin _) = min _ 15
    rw [GatherDims.batchCoord_eq_zero _ _ _ (by decide), GatherDims.offCoord_eq_zero _ _ _ (by decide)]
    unfold GatherDims.start
    rw [dif_pos (by decide), ← hs (by decide)]
    rfl
  | ⟨1, _⟩ =>
    show GatherDims.start gather_S16x256x512_S512x1_S512x256x512_12_0_n_n_0_1_1256512 _ _ (1 : Fin _) + GatherDims.batchCoord gather_S16x256x512_S512x1_S512x256x512_12_0_n_n_0_1_1256512 _ (1 : Fin _) + GatherDims.offCoord gather_S16x256x512_S512x1_S512x256x512_12_0_n_n_0_1_1256512 _ (1 : Fin _) = k.val
    rw [GatherDims.batchCoord_eq_zero _ _ _ (by decide)]
    unfold GatherDims.start GatherDims.offCoord
    rw [dif_neg (by decide), dif_pos (by decide)]
    simp only [hk]
    simp
  | ⟨2, _⟩ =>
    show GatherDims.start gather_S16x256x512_S512x1_S512x256x512_12_0_n_n_0_1_1256512 _ _ (2 : Fin _) + GatherDims.batchCoord gather_S16x256x512_S512x1_S512x256x512_12_0_n_n_0_1_1256512 _ (2 : Fin _) + GatherDims.offCoord gather_S16x256x512_S512x1_S512x256x512_12_0_n_n_0_1_1256512 _ (2 : Fin _) = f.val
    rw [GatherDims.batchCoord_eq_zero _ _ _ (by decide)]
    unfold GatherDims.start GatherDims.offCoord
    rw [dif_neg (by decide), dif_pos (by decide)]
    simp only [hk]
    simp

/-- The reference's probabilities, entry by entry. -/
theorem probs_at (r : Fin 512) (e : Fin 16) : probs X R (ix2 r e) = prob (fun k => X (ix2 r k)) (fun k e => R (ix2 k e)) e := by
  unfold prob best score
  pointwise [probs, exps, scores]

/-- The reference's guard at a row: the index names one of the sixteen experts. -/
theorem named_at (r : Fin 512) : named I (ix2 r 0) = BitVec.ofBool (decide ((I (ix2 r 0)).toNat < 16)) := by
  rw [← guard_eq]
  pointwise [named]

/-- A word that names an expert is not moved by clamping it to the sixteen. -/
theorem clamp_named (w : BitVec 32) (h : w.toNat < 16) : min w.toInt.toNat 15 = w.toNat := by
  have ht := BitVec.toInt_eq_toNat_cond w
  rw [if_pos (by omega)] at ht
  rw [ht]; omega

/-- The word the first table is read at is the token's own when that names an expert. -/
theorem wrapped_at (r : Fin 512) (h : (I (ix2 r 0)).toNat < 16) :
    (shapeCast S512x1x1 (select (cmpi .slt I (broadcastInDim S512x1 ![] bcast_S_S512x1 (constantI S_ 32 0#32)))
      (addi I (broadcastInDim S512x1 ![] bcast_S_S512x1 (constantI S_ 32 16#32))) I) shapeCasts_S512x1_S512x1x1) (ix3 r 0 0)
      = I (ix2 r 0) := by
  have hc : IntOp.cmpi .slt (I (ix2 r 0)) 0#32 = 0#1 := by
    rw [WordCmp.cmpi_slt_zero, decide_eq_false (by omega)]; rfl
  trans Scalar.select (IntOp.cmpi .slt (I (ix2 r 0)) 0#32) (IntOp.addi (I (ix2 r 0)) 16#32) (I (ix2 r 0))
  · pointwise
  · rw [hc]; rfl

/-- The probability the reference gathers for a row whose index names an expert. -/
theorem chosenProb_at (r : Fin 512) (h : (I (ix2 r 0)).toNat < 16) :
    chosenProb X R I (ix2 r 0) = prob (fun k => X (ix2 r k)) (fun k e => R (ix2 k e)) ⟨(I (ix2 r 0)).toNat, h⟩ := by
  unfold chosenProb
  rw [pick, ← probs_at]
  refine congrArg (fun e => probs X R (ix2 r e)) (Fin.ext ?_)
  show min (BitVec.toInt _).toNat 15 = _
  rw [wrapped_at I r h, clamp_named _ h]

/-- The weights the reference gathers for a row whose index names an expert. -/
theorem chosenWeights_at (r : Fin 512) (k : Fin 256) (f : Fin 512) (h : (I (ix2 r 0)).toNat < 16) :
    chosenWeights I W (ix3 r k f) = W (ix3 ⟨(I (ix2 r 0)).toNat, h⟩ k f) := by
  unfold chosenWeights
  rw [pickRows]
  show W _ = _
  refine congrArg (fun e => W (ix3 e k f)) (Fin.ext ?_)
  show min (BitVec.toInt _).toNat 15 = _
  have hi : (broadcastInDim S512x1 ![0] bcast_S512_S512x1_0 (shapeCast S512 I shapeCasts_S512x1_S512)) (ix2 r 0) = I (ix2 r 0) := by
    pointwise
  rw [hi, clamp_named _ h]

/-- The reference's result at token `r` and feature `f`. -/
theorem whole_at (r f : Fin 512) : whole X R I W S (ix2 r f)
    = (∑ k, X (ix2 r k) * S (ix2 k f)) + atNamed (I (ix2 r 0)) fun e =>
        prob (fun k => X (ix2 r k)) (fun k e => R (ix2 k e)) e * ∑ k, X (ix2 r k) * W (ix3 e k f) := by
  trans ∑ k, X (ix2 r k) * S (ix2 k f) + Scalar.select (named I (ix2 r 0))
      (chosenProb X R I (ix2 r 0) * ∑ k, X (ix2 r k) * chosenWeights I W (ix3 r k f)) (0 : EReal)
  · pointwise [whole]
    exact congrArg _ (congrArg _ Ideal.ofBits_zero_f32)
  · refine congrArg _ ?_
    rw [named_at]
    unfold atNamed
    split
    next h =>
      have hw : (fun k : Fin 256 => chosenWeights I W (ix3 r k f)) = fun k => W (ix3 ⟨(I (ix2 r 0)).toNat, h⟩ k f) :=
        funext fun k => chosenWeights_at I W r k f h
      have hk : ∀ k : Fin 256, chosenWeights I W (ix3 r k f) = W (ix3 ⟨(I (ix2 r 0)).toNat, h⟩ k f) := congrFun hw
      simp only [decide_eq_true h, chosenProb_at X R I r h, hk]
      rfl
    next h =>
      rw [decide_eq_false h]; rfl

end Cert.Whole

end
-- ==== Proof.Equality.lean ====
/-
# The kernel's result is the reference's, exactly

From memories that hold the same arrays, each device of the kernel ends with its block of rows of what the reference
computes, over the extended reals, when the tokens and the router's matrix are finite.
-/
module

public import proofs.«01_k».proof.Defs
public import proofs.«01_k».proof.Proof.Launch
public import proofs.«01_k».proof.Proof.KernelValue
public import proofs.«01_k».proof.Proof.ReferenceValue
public import proofs.«01_k».proof.Proof.Gen.Pre_finite_KernelIdeal
public import Idealize.ShloMosaic.Lib.ReduceAll

@[expose] public section

noncomputable section

namespace Cert.Exchange

open Cert.KernelIdeal Cert.KernelIdeal.Gen
open Cert.Routing
open Idealize.ShloMosaic Idealize.ShloMosaic.TcCoe
open Idealize.SL Idealize.SL.Sem

/-! ## Finite arguments -/

instance : Subsingleton (Shape.Idx Cert.Pre_finite_KernelIdeal.S_) := ⟨fun a b => funext fun i => i.elim0⟩

/-- A size below infinity is a number. -/
theorem finite_of_below (x : EReal) (h : Ideal.cmp .olt (max x (-x)) (Ideal.ofBits .f32 0x7F800000#32) = 1#1) : x ≠ ⊤ ∧ x ≠ ⊥ := by
  rw [ofBits_inf] at h
  constructor
  · rintro rfl; simp [Ideal.cmp] at h
  · rintro rfl; simp [Ideal.cmp] at h

/-- The precondition says that every token entry and every entry of the router's matrix is a number. -/
theorem finite_args (x : Vec Ideal S512x256 .bf16) (w : Vec Ideal S256x16 .bf16) (i : Vec Ideal S512x1 .i32)
    (e : Vec Ideal S2x256x512 .bf16) (s : Vec Ideal S256x512 .bf16)
    (h : Cert.Pre_finite_KernelIdeal.fn (F := Ideal) x w i e s = fun _ => 1#1) :
    (∀ j, x j ≠ (⊤ : EReal) ∧ x j ≠ (⊥ : EReal)) ∧ ∀ j, w j ≠ (⊤ : EReal) ∧ w j ≠ (⊥ : EReal) := by
  have h0 := congrFun h (fun i => i.elim0)
  unfold Cert.Pre_finite_KernelIdeal.fn at h0
  have hb := IntOp.andi_eq_one.1 h0
  exact ⟨fun j => finite_of_below _ (Host.reduce_andi_all _ _ _ _ _ hb.1 j),
    fun j => finite_of_below _ (Host.reduce_andi_all _ _ _ _ _ hb.2 j)⟩

/-! ## The arguments as the windows show them -/

variable (m : (ℓ : Loc nD τ sig) → Buf (Elt Ideal) ℓ)

/-- The fetched activations are the first argument. -/
theorem xIn_eq (c : Dev nD) : xIn m c = m ((c.tc : Thread nD τ).loc main_arg0) :=
  Memref.read_access_unit_zero (Elt Ideal) main_arg0
    (show (fun a => win0_0.index t0_0 a * main_arg0.ty.shape.size a) = fun _ => 0 from funext fun a => by fin_cases a <;> decide)
    (fun a => by fin_cases a <;> decide) _
/-- The fetched router weights are the second argument. -/
theorem rwIn_eq (c : Dev nD) : rwIn m c = m ((c.tc : Thread nD τ).loc main_arg1) :=
  Memref.read_access_unit_zero (Elt Ideal) main_arg1
    (show (fun a => win0_1.index t0_0 a * main_arg1.ty.shape.size a) = fun _ => 0 from funext fun a => by fin_cases a <;> decide)
    (fun a => by fin_cases a <;> decide) _
/-- The fetched indices are the third argument. -/
theorem idxIn_eq (c : Dev nD) : idxIn m c = m ((c.tc : Thread nD τ).loc main_arg2) :=
  Memref.read_access_unit_zero (Elt Ideal) main_arg2
    (show (fun a => win0_2.index t0_0 a * main_arg2.ty.shape.size a) = fun _ => 0 from funext fun a => by fin_cases a <;> decide)
    (fun a => by fin_cases a <;> decide) _
/-- The fetched expert weights are the fourth argument. -/
theorem ewIn_eq (c : Dev nD) : ewIn m c = m ((c.tc : Thread nD τ).loc main_arg3) :=
  Memref.read_access_unit_zero (Elt Ideal) main_arg3
    (show (fun a => win0_3.index t0_0 a * main_arg3.ty.shape.size a) = fun _ => 0 from funext fun a => by fin_cases a <;> decide)
    (fun a => by fin_cases a <;> decide) _
/-- The fetched shared weights are the fifth argument. -/
theorem swIn_eq (c : Dev nD) : swIn m c = m ((c.tc : Thread nD τ).loc main_arg4) :=
  Memref.read_access_unit_zero (Elt Ideal) main_arg4
    (show (fun a => win0_4.index t0_0 a * main_arg4.ty.shape.size a) = fun _ => 0 from funext fun a => by fin_cases a <;> decide)
    (fun a => by fin_cases a <;> decide) _

/-! ## Equality -/

/-- Where device `c`'s row `a` of the result is in the whole. -/
theorem block_rows {α : Type} (v : Shape.Idx ⟨2, ![512, 512]⟩ → α) (c : Fin 8) (a : Fin 64) (f : Fin 512) :
    Layout.block ⟨2, ![64, 512]⟩ ⟨2, ![512, 512]⟩ 0 8 c v (by decide) (ix2 a f) = v (ix2 (token c a) f) := by
  refine congrArg v (funext fun b => Fin.ext ?_)
  match b with
  | ⟨0, _⟩ =>
    show c.val * 64 + a.val = 64 * c.val + a.val
    omega
  | ⟨1, _⟩ => rfl

/-- Where device `c`'s expert `b` is among the sixteen. -/
theorem block_experts {α : Type} (v : Shape.Idx ⟨3, ![16, 256, 512]⟩ → α) (c : Fin 8) (b : Fin 2) (k : Fin 256) (f : Fin 512) :
    Layout.block ⟨3, ![2, 256, 512]⟩ ⟨3, ![16, 256, 512]⟩ 0 8 c v (by decide) (ix3 b k f) = v (ix3 ⟨2 * c.val + b.val, by omega⟩ k f) := by
  refine congrArg v (funext fun q => Fin.ext ?_)
  match q with
  | ⟨0, _⟩ =>
    show c.val * 2 + b.val = 2 * c.val + b.val
    omega
  | ⟨1, _⟩ => rfl
  | ⟨2, _⟩ => rfl

/-- A device's result is its block of rows of what the reference computes of the whole arrays. -/
theorem result_eq (x : Vec Ideal S512x256 .bf16) (w : Vec Ideal S256x16 .bf16) (i : Vec Ideal S512x1 .i32)
    (v : Vec Ideal Cert.ReferenceIdeal.S16x256x512 .bf16) (s : Vec Ideal S256x512 .bf16)
    (hx : ∀ d, xIn m d = x) (hw : ∀ d, rwIn m d = w) (hi : ∀ d, idxIn m d = i) (hs : ∀ d, swIn m d = s)
    (hv : ∀ d : Dev nD, ewIn m d = Layout.block ⟨3, ![2, 256, 512]⟩ ⟨3, ![16, 256, 512]⟩ 0 8 d v)
    (fx : ∀ j, x j ≠ (⊤ : EReal) ∧ x j ≠ (⊥ : EReal)) (fw : ∀ j, w j ≠ (⊤ : EReal) ∧ w j ≠ (⊥ : EReal)) (c : Dev nD) :
    result m c = Layout.block ⟨2, ![64, 512]⟩ ⟨2, ![512, 512]⟩ 0 8 c (Cert.Whole.whole x w i v s) := by
  funext j
  obtain ⟨a, f, rfl⟩ : ∃ (a : Fin 64) (f : Fin 512), j = ix2 a f := ⟨j 0, j 1, (ix2_eta j).symm⟩
  rw [block_rows]
  refine (result_at m x w i v s hx hw hi hs (fun d b k f => (congrFun (hv d) _).trans (block_experts v d b k f)) c a f).trans ?_
  refine Eq.trans ?_ (Cert.Whole.whole_at x w i v s (token c a) f).symm
  refine congrArg _ ?_
  exact scaled_first (i (ix2 (token c a) 0)) _ (prob_real _ _ (fun k => fx _) (fun k e => fw _)) (fun k => x (ix2 (token c a) k))
    (fun e k => v (ix3 e k f))

/-- Both programs run, and the kernel's result blocks are the reference's result, exactly. -/
theorem algebraic : Cert.algebraic_KernelIdeal_ReferenceIdeal_pre_finite_KernelIdeal := by
  intro m g m' g' hpre hargs
  refine ⟨_, (θ_run _ _ _).mono (fun r h c => ⟨(h.1 c).1.trans ?_, (h.1 c).2⟩) (run_main (F := Ideal) m g),
    (θ_run _ _ _).mono (fun r h => ⟨(h 0).1, (h 0).2⟩) (Cert.ReferenceIdeal.Value.run (F := Ideal) m' g')⟩
  obtain ⟨fx, fw⟩ := finite_args _ _ _ _ _ (hpre c)
  exact result_eq m _ _ _ _ _ (fun d => (xIn_eq m d).trans (hargs d).1) (fun d => (rwIn_eq m d).trans (hargs d).2.1)
    (fun d => (idxIn_eq m d).trans (hargs d).2.2.1) (fun d => (swIn_eq m d).trans (hargs d).2.2.2.2)
    (fun d => (ewIn_eq m d).trans (hargs d).2.2.2.1) ((hargs c).1 ▸ fx) ((hargs c).2.1 ▸ fw) c

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Equality
public import Idealize.ShloMosaic.Adequacy
public import Idealize.ShloMosaic.Init

@[expose] public section

noncomputable section

namespace Cert.Proof

open Idealize.ShloMosaic Idealize.SL.Sem Cert.Kernel

/-- The certificate's claims: the frames of the kernel, of its idealization and of the reference, with and without the
    precondition; that the idealization replaced nothing; and the exact equality of the two results. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, Cert.Exchange.frame_kernel, Cert.Exchange.frame_ideal,
    fun m g _ => Cert.Exchange.frame_ideal m g trivial, Cert.Exchange.frame_reference,
    fun m g _ => Cert.Exchange.frame_reference m g trivial, trivial, Cert.Exchange.algebraic⟩

end Cert.Proof

end
